-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x768x4608 : Shape := ⟨3, ![1, 768, 4608]⟩
abbrev S1x768x1 : Shape := ⟨3, ![1, 768, 1]⟩
abbrev S4608x7168 : Shape := ⟨2, ![4608, 7168]⟩
abbrev S1x7168 : Shape := ⟨2, ![1, 7168]⟩
abbrev S768x4608 : Shape := ⟨2, ![768, 4608]⟩
abbrev S768x1 : Shape := ⟨2, ![768, 1]⟩
abbrev S768x7168 : Shape := ⟨2, ![768, 7168]⟩
abbrev S4608x512 : Shape := ⟨2, ![4608, 512]⟩
abbrev S1x512 : Shape := ⟨2, ![1, 512]⟩
abbrev S768x512 : Shape := ⟨2, ![768, 512]⟩
abbrev S768 : Shape := ⟨1, ![768]⟩
abbrev S768x256 : Shape := ⟨2, ![768, 256]⟩
abbrev S1x768x7168 : Shape := ⟨3, ![1, 768, 7168]⟩

abbrev nBuf : Space → Nat
  | .hbm => 10
  | .vmem => 10
  | .smem => 0
  | _ => 0

abbrev bufTy : (tb : Table) → Fin (tcTables nBuf tb) → BufTy
  | .hbm, ⟨0, _⟩ => ⟨S1x768x4608, .fp8e4m3⟩
  | .hbm, ⟨1, _⟩ => ⟨S1x768x1, .f32⟩
  | .hbm, ⟨2, _⟩ => ⟨S4608x7168, .fp8e4m3⟩
  | .hbm, ⟨3, _⟩ => ⟨S1x7168, .f32⟩
  | .hbm, ⟨4, _⟩ => ⟨S768x4608, .fp8e4m3⟩
  | .hbm, ⟨5, _⟩ => ⟨S768x1, .f32⟩
  | .hbm, ⟨6, _⟩ => ⟨S768x1, .f32⟩
  | .hbm, ⟨7, _⟩ => ⟨S768x7168, .fp8e4m3⟩
  | .hbm, ⟨8, _⟩ => ⟨S1x768x1, .f32⟩
  | .hbm, ⟨9, _⟩ => ⟨S1x768x7168, .fp8e4m3⟩
  | .local _ .vmem, ⟨0, _⟩ => ⟨S768x4608, .fp8e4m3⟩
  | .local _ .vmem, ⟨1, _⟩ => ⟨S768x1, .f32⟩
  | .local _ .vmem, ⟨2, _⟩ => ⟨S4608x512, .fp8e4m3⟩
  | .local _ .vmem, ⟨3, _⟩ => ⟨S4608x512, .fp8e4m3⟩
  | .local _ .vmem, ⟨4, _⟩ => ⟨S1x512, .f32⟩
  | .local _ .vmem, ⟨5, _⟩ => ⟨S1x512, .f32⟩
  | .local _ .vmem, ⟨6, _⟩ => ⟨S768x1, .f32⟩
  | .local _ .vmem, ⟨7, _⟩ => ⟨S768x7168, .fp8e4m3⟩
  | .local _ .vmem, ⟨8, _⟩ => ⟨S768x7168, .f32⟩
  | .local _ .vmem, ⟨9, _⟩ => ⟨S768x1, .f32⟩
  | _, _ => ⟨S1x768x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![14], ![false]⟩

def k0_mult1 (i : grid0.Coords) : BitVec 32 :=
  let arg0 : BitVec 32 := BitVec.ofNat 32 (i 0).val
  let c512_i32 : BitVec 32 := 512#32
  let v24 : BitVec 32 := Scalar.muli arg0 c512_i32
  v24
def k0_off1 (i : grid0.Coords) : Fin 2 → Nat :=
  let c0_11 : Index := 0#32
  let arg0 : BitVec 32 := BitVec.ofNat 32 (i 0).val
  let c512_i32 : BitVec 32 := 512#32
  let v24 : BitVec 32 := Scalar.muli arg0 c512_i32
  let v25 : BitVec 32 := v24
  let v26 : Index := Scalar.indexCast v25
  ![0, v26.toNat]
def k0_cond3 (i : grid0.Coords) : BitVec 1 :=
  let arg0 : BitVec 32 := BitVec.ofNat 32 (i 0).val
  let c13_i32 : BitVec 32 := 13#32
  let v39 : BitVec 1 := Scalar.cmpi .eq arg0 c13_i32
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4608x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x768x4608 : Shape := ⟨3, ![1, 768, 4608]⟩
abbrev S1x768x1 : Shape := ⟨3, ![1, 768, 1]⟩
abbrev S4608x7168 : Shape := ⟨2, ![4608, 7168]⟩
abbrev S1x7168 : Shape := ⟨2, ![1, 7168]⟩
abbrev S768x4608 : Shape := ⟨2, ![768, 4608]⟩
abbrev S768x1 : Shape := ⟨2, ![768, 1]⟩
abbrev S768x7168 : Shape := ⟨2, ![768, 7168]⟩
abbrev S768 : Shape := ⟨1, ![768]⟩
abbrev S1x768x7168 : Shape := ⟨3, ![1, 768, 7168]⟩

abbrev nBuf : Space → Nat
  | .hbm => 10
  | .vmem => 6
  | .smem => 0
  | _ => 0

abbrev bufTy : (tb : Table) → Fin (tcTables nBuf tb) → BufTy
  | .hbm, ⟨0, _⟩ => ⟨S1x768x4608, .fp8e4m3⟩
  | .hbm, ⟨1, _⟩ => ⟨S1x768x1, .f32⟩
  | .hbm, ⟨2, _⟩ => ⟨S4608x7168, .fp8e4m3⟩
  | .hbm, ⟨3, _⟩ => ⟨S1x7168, .f32⟩
  | .hbm, ⟨4, _⟩ => ⟨S768x4608, .fp8e4m3⟩
  | .hbm, ⟨5, _⟩ => ⟨S768x1, .f32⟩
  | .hbm, ⟨6, _⟩ => ⟨S768x1, .f32⟩
  | .hbm, ⟨7, _⟩ => ⟨S768x7168, .fp8e4m3⟩
  | .hbm, ⟨8, _⟩ => ⟨S1x768x1, .f32⟩
  | .hbm, ⟨9, _⟩ => ⟨S1x768x7168, .fp8e4m3⟩
  | .local _ .vmem, ⟨0, _⟩ => ⟨S768x4608, .fp8e4m3⟩
  | .local _ .vmem, ⟨1, _⟩ => ⟨S768x1, .f32⟩
  | .local _ .vmem, ⟨2, _⟩ => ⟨S4608x7168, .fp8e4m3⟩
  | .local _ .vmem, ⟨3, _⟩ => ⟨S1x7168, .f32⟩
  | .local _ .vmem, ⟨4, _⟩ => ⟨S768x1, .f32⟩
  | .local _ .vmem, ⟨5, _⟩ => ⟨S768x7168, .fp8e4m3⟩
  | _, _ => ⟨S1x768x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S768x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelPoints.lean ====
/- The conditions of the kernel body's three branches at a grid point, which points leave an output window idle, and the names of
   the buffers a point works on. The grid has 14 points: the first (case A) starts the running maximum, the later ones (case B)
   raise it, and the last one (case C) also stores the scale and the codes. -/
module

public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_2, k0_cond3, e0]
    word_cmp
   : ∀ t : Fin grid0.N, cond0_2 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → ¬cond0_2 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → ¬cond0_2 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → cond0_1 (grid0.coords t) → ¬cond0_2 (grid0.coords t) → cfg0.idle 4 (grid0.coords t) = true := by decide +kernel
/-- At the points of case B the pipeline does not write output 4's block back. -/
theorem noFlush0_4_B : ∀ t : Fin cfg0.N, ¬cond0_0 (grid0.coords t) → cond0_1 (grid0.coords t) → ¬cond0_2 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cond0_2 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → ¬cond0_2 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → cond0_1 (grid0.coords t) → ¬cond0_2 (grid0.coords t) → cfg0.idle 5 (grid0.coords t) = true := by decide +kernel
/-- At the points of case B the pipeline does not write output 5's block back. -/
theorem noFlush0_5_B : ∀ t : Fin cfg0.N, ¬cond0_0 (grid0.coords t) → cond0_1 (grid0.coords t) → ¬cond0_2 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cond0_2 (grid0.coords t) → cfg0.idle 5 (grid0.coords t) = false := by decide +kernel

/-- Each window's current staging memref at point `t`, spelled as the pipeline passes it (`bodyAt0`), and its wholeness. -/
abbrev ms0_0 (t : Fin cfg0.N) : Memref sig .tc .vmem S768x4608 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4608x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x7168 .fp8e4m3 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S768x7168 .f32 := Memref.whole cc0_scratch0
abbrev scM0_1 : Memref sig .tc .vmem S768x1 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelRuns.lean ====
/- What one run of the kernel body does to the buffers it is given, in each of its three cases: the triples are stated with the
   payload functions of the body's skeleton, and the scratch that holds the activations is tracked as a whole array in which the
   point's slice has been replaced. -/
module

public import proofs.«01_k».proof.Proof.KernelPoints
public import proofs.«01_k».proof.Proof.Gen.KernelIdeal.Skeleton
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The activations after a point: its slice of 512 columns replaced by the tile `w`. -/
def sliceIn (x : Vec F S768x7168 .f32) (i : grid0.Coords) (w : Vec F S768x512 .f32) : Vec F S768x7168 .f32 :=
  VecWindow.put x (k0_off1 i) S768x512.size w

set_option maxHeartbeats 1000000 in
/-- The first point: the slice of the activations is stored, and the running maximum starts at the slice's row maxima; the outputs stay as they are. -/
theorem run_A (c : Dev nD) (i : grid0.Coords) (arg1 : Memref sig .tc .vmem S768x4608 .fp8e4m3) (harg1 : arg1.IsWhole) (arg2 : Memref sig .tc .vmem S768x1 .f32) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S768x1 .f32) (harg5 : arg5.IsWhole) (arg6 : Memref sig .tc .vmem S768x7168 .fp8e4m3) (harg6 : arg6.IsWhole) (arg7 : Memref sig .tc .vmem S768x7168 .f32) (harg7 : arg7.IsWhole) (arg8 : Memref sig .tc .vmem S768x1 .f32) (harg8 : arg8.IsWhole) (hc0 : cond0_0 i) (hc1 : ¬cond0_1 i) (hc2 : ¬cond0_2 i)
    (x0 : Vec F S768x4608 .fp8e4m3) (x1 : Vec F S768x1 .f32) (x2 : Vec F S4608x512 .fp8e4m3) (x3 : Vec F S1x512 .f32) (x4 : Vec F S768x1 .f32) (x5 : Vec F S768x7168 .fp8e4m3) (xs0 : Vec F S768x7168 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (sliceIn xs0 i (k0_pay6 x0 x2 x1 x3)) ∗ owns (c : Thread nD τ) arg8 fullShare (k0_pay8 x0 x2 x1 x3)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1 | sl_exact hc2)
    sl_step
    have e1 : arg1.view.readAt (Elt F) (Rect.unit ![0, 0] S768x4608.size inb_S768x4608_S768x4608_0_0).toLoadRect (harg1.unread x0) = x0 := (View.readAt_full _ _ _).trans (harg1.read_unread x0)
    have e2 : arg2.view.readAt (Elt F) (Rect.unit ![0, 0] S768x1.size inb_S768x1_S768x1_0_0).toLoadRect (harg2.unread x1) = x1 := (View.readAt_full _ _ _).trans (harg2.read_unread x1)
    have e3 : arg3.view.readAt (Elt F) (Rect.unit ![0, 0] S4608x512.size inb_S4608x512_S4608x512_0_0).toLoadRect (harg3.unread x2) = x2 := (View.readAt_full _ _ _).trans (harg3.read_unread x2)
    have e4 : arg4.view.readAt (Elt F) (Rect.unit ![0, 0] S1x512.size inb_S1x512_S1x512_0_0).toLoadRect (harg4.unread x3) = x3 := (View.readAt_full _ _ _).trans (harg4.read_unread x3)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    isplitl [H5]
    · iexists _; isplitr; · ipureintro; exact hf5
      iexact H5
    isplitl [HS0]
    · iexists _; isplitr; swap; · iexact HS0
      ipureintro
      refine (View.read_writes_cons_put _ _ _ _ _ rfl).trans ?_
      rw [View.writes_nil, harg7.read_unread, e1, e2, e3, e4]; rfl
    iexists _; isplitr; swap; · iexact HS1
    ipureintro
    refine (View.read_writes_full _ _ _ _ _).trans ?_
    rw [e1, e2, e3, e4]

set_option maxHeartbeats 1000000 in
/-- A later point but the last: the slice is stored and the running maximum is raised by the slice's row maxima; the outputs stay as they are. -/
theorem run_B (c : Dev nD) (i : grid0.Coords) (arg1 : Memref sig .tc .vmem S768x4608 .fp8e4m3) (harg1 : arg1.IsWhole) (arg2 : Memref sig .tc .vmem S768x1 .f32) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S768x1 .f32) (harg5 : arg5.IsWhole) (arg6 : Memref sig .tc .vmem S768x7168 .fp8e4m3) (harg6 : arg6.IsWhole) (arg7 : Memref sig .tc .vmem S768x7168 .f32) (harg7 : arg7.IsWhole) (arg8 : Memref sig .tc .vmem S768x1 .f32) (harg8 : arg8.IsWhole) (hc0 : ¬cond0_0 i) (hc1 : cond0_1 i) (hc2 : ¬cond0_2 i)
    (x0 : Vec F S768x4608 .fp8e4m3) (x1 : Vec F S768x1 .f32) (x2 : Vec F S4608x512 .fp8e4m3) (x3 : Vec F S1x512 .f32) (x4 : Vec F S768x1 .f32) (x5 : Vec F S768x7168 .fp8e4m3) (xs0 : Vec F S768x7168 .f32) (xs1 : Vec F S768x1 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (sliceIn xs0 i (k0_pay6 x0 x2 x1 x3)) ∗ owns (c : Thread nD τ) arg8 fullShare (k0_pay1 (k0_pay7 x0 x2 x1 x3) xs1)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0 | sl_exact hc1 | sl_exact hc2)
    sl_step
    have e1 : arg1.view.readAt (Elt F) (Rect.unit ![0, 0] S768x4608.size inb_S768x4608_S768x4608_0_0).toLoadRect (harg1.unread x0) = x0 := (View.readAt_full _ _ _).trans (harg1.read_unread x0)
    have e2 : arg2.view.readAt (Elt F) (Rect.unit ![0, 0] S768x1.size inb_S768x1_S768x1_0_0).toLoadRect (harg2.unread x1) = x1 := (View.readAt_full _ _ _).trans (harg2.read_unread x1)
    have e3 : arg3.view.readAt (Elt F) (Rect.unit ![0, 0] S4608x512.size inb_S4608x512_S4608x512_0_0).toLoadRect (harg3.unread x2) = x2 := (View.readAt_full _ _ _).trans (harg3.read_unread x2)
    have e4 : arg4.view.readAt (Elt F) (Rect.unit ![0, 0] S1x512.size inb_S1x512_S1x512_0_0).toLoadRect (harg4.unread x3) = x3 := (View.readAt_full _ _ _).trans (harg4.read_unread x3)
    have e8 : arg8.view.readAt (Elt F) (Rect.unit ![0, 0] ![768, 1] inb_S768x1_S768x1_0_0).toLoadRect (harg8.unread xs1) = xs1 := (View.readAt_full _ _ _).trans (harg8.read_unread xs1)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    isplitl [H5]
    · iexists _; isplitr; · ipureintro; exact hf5
      iexact H5
    isplitl [HS0]
    · iexists _; isplitr; swap; · iexact HS0
      ipureintro
      refine (View.read_writes_cons_put _ _ _ _ _ rfl).trans ?_
      rw [View.writes_nil, harg7.read_unread, e1, e2, e3, e4]; rfl
    iexists _; isplitr; swap; · iexact HS1
    ipureintro
    refine (View.read_writes_full _ _ _ _ _).trans ?_
    unfold run_B.sl.r; rw [e1, e2, e3, e4, e8]

set_option maxHeartbeats 1000000 in
/-- The last point: besides the slice and the running maximum, the scale and the codes are stored, both computed from the maximum just raised and from all the activations, the slice just stored among them. -/
theorem run_C (c : Dev nD) (i : grid0.Coords) (arg1 : Memref sig .tc .vmem S768x4608 .fp8e4m3) (harg1 : arg1.IsWhole) (arg2 : Memref sig .tc .vmem S768x1 .f32) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S768x1 .f32) (harg5 : arg5.IsWhole) (arg6 : Memref sig .tc .vmem S768x7168 .fp8e4m3) (harg6 : arg6.IsWhole) (arg7 : Memref sig .tc .vmem S768x7168 .f32) (harg7 : arg7.IsWhole) (arg8 : Memref sig .tc .vmem S768x1 .f32) (harg8 : arg8.IsWhole) (hc0 : ¬cond0_0 i) (hc1 : cond0_1 i) (hc2 : cond0_2 i)
    (x0 : Vec F S768x4608 .fp8e4m3) (x1 : Vec F S768x1 .f32) (x2 : Vec F S4608x512 .fp8e4m3) (x3 : Vec F S1x512 .f32) (xs0 : Vec F S768x7168 .f32) (xs1 : Vec F S768x1 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay4 (k0_pay1 (k0_pay7 x0 x2 x1 x3) xs1)) ∗ owns (c : Thread nD τ) arg6 fullShare (k0_pay2 (k0_pay3 (k0_pay1 (k0_pay7 x0 x2 x1 x3) xs1)) (sliceIn xs0 i (k0_pay6 x0 x2 x1 x3))) ∗ owns (c : Thread nD τ) arg7 fullShare (sliceIn xs0 i (k0_pay6 x0 x2 x1 x3)) ∗ owns (c : Thread nD τ) arg8 fullShare (k0_pay1 (k0_pay7 x0 x2 x1 x3) xs1)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0 | sl_exact hc1 | sl_exact hc2)
    sl_step
    have e1 : arg1.view.readAt (Elt F) (Rect.unit ![0, 0] S768x4608.size inb_S768x4608_S768x4608_0_0).toLoadRect (harg1.unread x0) = x0 := (View.readAt_full _ _ _).trans (harg1.read_unread x0)
    have e2 : arg2.view.readAt (Elt F) (Rect.unit ![0, 0] S768x1.size inb_S768x1_S768x1_0_0).toLoadRect (harg2.unread x1) = x1 := (View.readAt_full _ _ _).trans (harg2.read_unread x1)
    have e3 : arg3.view.readAt (Elt F) (Rect.unit ![0, 0] S4608x512.size inb_S4608x512_S4608x512_0_0).toLoadRect (harg3.unread x2) = x2 := (View.readAt_full _ _ _).trans (harg3.read_unread x2)
    have e4 : arg4.view.readAt (Elt F) (Rect.unit ![0, 0] S1x512.size inb_S1x512_S1x512_0_0).toLoadRect (harg4.unread x3) = x3 := (View.readAt_full _ _ _).trans (harg4.read_unread x3)
    have e8 : arg8.view.readAt (Elt F) (Rect.unit ![0, 0] ![768, 1] inb_S768x1_S768x1_0_0).toLoadRect (harg8.unread xs1) = xs1 := (View.readAt_full _ _ _).trans (harg8.read_unread xs1)
    have hr : run_C.sl.r c arg1 harg1 arg2 harg2 arg3 harg3 arg4 harg4 x0 x1 x2 x3 = k0_pay7 x0 x2 x1 x3 := by
      unfold run_C.sl.r; rw [e1, e2, e3, e4]
    have hv : run_C.sl.v42 c arg1 harg1 arg2 harg2 arg3 harg3 arg4 harg4 arg8 harg8 x0 x1 x2 x3 xs1 = k0_pay1 (k0_pay7 x0 x2 x1 x3) xs1 := by
      unfold run_C.sl.v42 run_C.sl.HS1_1
      refine (View.readCov_full _ _ _ _ _).trans ?_
      rw [hr, e8]
    have h7 : View.read (Elt F) arg7.view (arg7.view.writes (Elt F) (harg7.unread xs0) (run_C.sl.HS0_1 c i arg1 harg1 arg2 harg2 arg3 harg3 arg4 harg4 x0 x1 x2 x3)) = sliceIn xs0 i (k0_pay6 x0 x2 x1 x3) := by
      unfold run_C.sl.HS0_1
      refine (View.read_writes_cons_put _ _ _ _ _ rfl).trans ?_
      rw [View.writes_nil, harg7.read_unread, e1, e2, e3, e4]; rfl
    have h8 : run_C.sl.v82 c i arg1 harg1 arg2 harg2 arg3 harg3 arg4 harg4 arg7 harg7 x0 x1 x2 x3 xs0 = sliceIn xs0 i (k0_pay6 x0 x2 x1 x3) := by
      unfold run_C.sl.v82
      exact (View.readAt_full _ _ _).trans h7
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      unfold run_C.sl.r_2; rw [hv]
    isplitl [H5]
    · iexists _; isplitr; swap; · iexact H5
      ipureintro
      refine (View.read_writes_full _ _ _ _ _).trans ?_
      unfold run_C.sl.r_1; rw [hv, h8]
    isplitl [HS0]
    · iexists _; isplitr; swap; · iexact HS0
      ipureintro
      exact h7
    iexists _; isplitr; swap; · iexact HS1
    ipureintro
    unfold run_C.sl.HS1_1
    refine (View.read_writes_full _ _ _ _ _).trans ?_
    rw [hr, e8]

end Cert.KernelIdeal.Hand

end
-- ==== Proof.KernelFrame.lean ====
/- The kernel's run over its whole grid. The scratch that carries the running maximum holds after a point the running maximum of the
   tiles up to it (`rowMax`); of the scratch that holds the activations the columns of the tiles up to the point are known
   (`Filled`), and at the last point they are all of them, so the scale and the codes stored there are functions of the row maxima
   and of the whole activations (`acts`). -/
module

public import proofs.«01_k».proof.Proof.KernelRuns
public import Idealize.ShloMosaic.Lib.ValueIdxCore
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix2)

variable (m : (ℓ : Loc nD τ sig) → Buf (Elt F) ℓ) (ρ : Dev nD → PrngReg)

/-- The grid has 14 points. -/
theorem N_eq : cfg0.N = 14 := N_0

/-- The tile of activations of point `t`: 512 columns, computed from the point's four input blocks. -/
def tile (c : Dev nD) (t : Fin cfg0.N) : Vec F S768x512 .f32 := k0_pay6 (iblk m c 0 t) (iblk m c 2 t) (iblk m c 1 t) (iblk m c 3 t)

/-- The row maxima of point `t`'s tile. -/
def tileMax (c : Dev nD) (t : Fin cfg0.N) : Vec F S768x1 .f32 := k0_pay7 (iblk m c 0 t) (iblk m c 2 t) (iblk m c 1 t) (iblk m c 3 t)

/-- The running row maximum after point `n`. -/
def rowMax (c : Dev nD) : (n : ℕ) → n < cfg0.N → Vec F S768x1 .f32
  | 0, h => k0_pay8 (iblk m c 0 ⟨0, h⟩) (iblk m c 2 ⟨0, h⟩) (iblk m c 1 ⟨0, h⟩) (iblk m c 3 ⟨0, h⟩)
  | n + 1, h => k0_pay1 (tileMax m c ⟨n + 1, h⟩) (rowMax c n (Nat.lt_of_succ_lt h))

/-- The point whose tile has column `k`. -/
def pointOf (k : Fin 7168) : Fin cfg0.N := ⟨k.val / 512, by have := k.isLt; have := N_eq; omega⟩

/-- All the activations, column `k` from the tile of point `k / 512`. -/
def acts (c : Dev nD) : Vec F S768x7168 .f32 := fun i =>
  tile m c (pointOf (i 1)) (ix2 (n0 := 768) (n1 := 512) (i 0) ⟨(i 1).val % 512, Nat.mod_lt _ (by decide)⟩)

/-- The columns of the first `n` tiles hold the activations. -/
def Filled (c : Dev nD) (n : ℕ) (d : Vec F S768x7168 .f32) : Prop := ∀ i : S768x7168.Idx, (i 1).val < 512 * n → d i = acts m c i

theorem filled_zero (c : Dev nD) (d : Vec F S768x7168 .f32) : Filled m c 0 d := fun i h => absurd h (Nat.not_lt_zero _)

/-- The slice of point `t` starts at column `512 * t`. -/
theorem off_eq : ∀ t : Fin cfg0.N, k0_off1 (grid0.coords t) = ![0, 512 * t.val] :=
  (by decide +kernel : ∀ t : Fin grid0.N, k0_off1 (grid0.coords t) = ![0, 512 * t.val])

/-- Storing the tile of point `t` fills the tiles up to it. -/
theorem filled_succ (c : Dev nD) (t : Fin cfg0.N) (d : Vec F S768x7168 .f32) (h : Filled m c t.val d) :
    Filled m c (t.val + 1) (sliceIn d (grid0.coords t) (tile m c t)) := by
  intro i hi
  unfold sliceIn
  rw [off_eq]
  by_cases hlt : (i 1).val < 512 * t.val
  · have hn : ¬ ∀ a, (![0, 512 * t.val] : Fin 2 → ℕ) a ≤ (i a).val ∧ (i a).val < (![0, 512 * t.val] : Fin 2 → ℕ) a + S768x512.size a := fun hall => by
      have := (hall 1).1
      change 512 * t.val ≤ (i 1).val at this
      omega
    exact (dif_neg hn).trans (h i hlt)
  · have h0 : (i 0).val < 768 := (i 0).isLt
    have hp : ∀ a, (![0, 512 * t.val] : Fin 2 → ℕ) a ≤ (i a).val ∧ (i a).val < (![0, 512 * t.val] : Fin 2 → ℕ) a + S768x512.size a :=
      Fin.forall_fin_two.mpr ⟨⟨Nat.zero_le _, by show (i 0).val < 0 + 768; omega⟩,
        by show 512 * t.val ≤ (i 1).val; omega, by show (i 1).val < 512 * t.val + 512; omega⟩
    refine (dif_pos hp).trans ?_
    unfold acts
    have ht : pointOf (i 1) = t := Fin.ext (by show (i 1).val / 512 = t.val; omega)
    rw [ht]
    refine congrArg (tile m c t) (funext fun a => ?_)
    match a with
    | ⟨0, _⟩ => exact Fin.ext (by show (i 0).val - 0 = (i 0).val; omega)
    | ⟨1, _⟩ => exact Fin.ext (by show (i 1).val - 512 * t.val = (i 1).val % 512; omega)

/-- Once all the tiles are filled the scratch is the activations. -/
theorem filled_all (c : Dev nD) (d : Vec F S768x7168 .f32) (h : Filled m c 14 d) : d = acts m c :=
  funext fun i => h i (by have h1 : (i 1).val < 7168 := (i 1).isLt; omega)

/-- The scale stored at the last point. -/
def outScale (c : Dev nD) : Vec F S768x1 .f32 := k0_pay4 (rowMax m c 13 (by rw [N_eq]; decide))

/-- The codes stored at the last point. -/
def outCodes (c : Dev nD) : Vec F S768x7168 .fp8e4m3 := k0_pay2 (k0_pay3 (rowMax m c 13 (by rw [N_eq]; decide))) (acts m c)

/-- What is known of the scratch before point `n`: before the first nothing; afterwards the filled tiles and the running maximum. -/
def Inv (c : Dev nD) : (n : ℕ) → n ≤ cfg0.N → sProp (MT nD τ sig Unit (Elt F) ℕ (UR sig nD τ) ℕ)
  | 0, _ => Pipeline.ΦA spec0 c
  | n + 1, hn => iprop(iprop((∃ d, ⌜Filled m c (n + 1) d⌝ ∗ owns (c : Thread nD τ) scM0_0 fullShare d) ∗ owns (c : Thread nD τ) scM0_1 fullShare (rowMax m c n hn)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop((∃ d, ⌜Filled m c (n + 1) d⌝ ∗ owns (c : Thread nD τ) scM0_0 fullShare d) ∗ owns (c : Thread nD τ) scM0_1 fullShare (rowMax m c n hn)) ∗ (∃ r, prngReg c r)) := rfl

theorem Inv_pos (c : Dev nD) (n : ℕ) (h : n ≤ cfg0.N) (hz : n ≠ 0) :
    Inv m c n h = iprop(iprop((∃ d, ⌜Filled m c n d⌝ ∗ owns (c : Thread nD τ) scM0_0 fullShare d) ∗ owns (c : Thread nD τ) scM0_1 fullShare (rowMax m c (n - 1) (by omega))) ∗ (∃ r, prngReg c r)) := by
  cases n with
  | zero => exact absurd rfl hz
  | succ n => rfl

theorem rowMax_zero (c : Dev nD) (t : Fin cfg0.N) (hz : t.val = 0) :
    rowMax m c t.val t.isLt = k0_pay8 (iblk m c 0 t) (iblk m c 2 t) (iblk m c 1 t) (iblk m c 3 t) := by
  obtain ⟨n, hn⟩ := t
  cases n with
  | zero => rfl
  | succ n => exact absurd hz (Nat.succ_ne_zero n)

theorem rowMax_pos (c : Dev nD) (t : Fin cfg0.N) (hz : t.val ≠ 0) :
    rowMax m c t.val t.isLt = k0_pay1 (k0_pay7 (iblk m c 0 t) (iblk m c 2 t) (iblk m c 1 t) (iblk m c 3 t)) (rowMax m c (t.val - 1) (by omega)) := by
  obtain ⟨n, hn⟩ := t
  cases n with
  | zero => exact absurd rfl hz
  | succ n => rfl

/-- The proof data: each input's buffer keeps its block, the two outputs end at the scale and the codes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScale m c
    | ⟨5, _⟩ => outCodes m c
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outScale m c := by dsimp only [dats]
theorem after0_5 (c : Dev nD) (t : Fin cfg0.N) : (dats m 0 c).after 5 t = outCodes m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body's triple at the first point. -/
theorem sound_A (c : Dev nD) (t : Fin cfg0.N) (h0 : t.val % 14 = 0) (h1 : ¬1 ≤ t.val) (h2 : ¬t.val % 14 = 13) (hz : t.val = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3]
    rw [show (dats m 0 c).owesAt () t.succ = (dats m 0 c).owesAt () t.castSucc from rfl]
    rw [show (dats m 0 c).Φ t.succ = Inv m c (t.val + 1) t.isLt from rfl, Inv_succ]
    have hN : t.val < 14 := lt_of_lt_of_eq t.isLt N_eq
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4_A t ((hcond0_0 t).mpr h0) (fun h => h1 ((hcond0_1 t).mp h)) (fun h => h2 ((hcond0_2 t).mp h))) (noFlush0_4_A t ((hcond0_0 t).mpr h0) (fun h => h1 ((hcond0_1 t).mp h)) (fun h => h2 ((hcond0_2 t).mp h)))]
    rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
    rw [Inv_castSucc m c t, Inv_zero m c _ _ hz, PhiA0_eq, rowMax_zero m c t hz]
    iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩⟩
    have hf : Filled m c t.val e0 := hz ▸ filled_zero m c e0
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) _ _ e0 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact filled_succ m c t e0 hf
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 9600000 in
/-- The body's triple at a point between the first and the last. -/
theorem sound_B (c : Dev nD) (t : Fin cfg0.N) (h0 : ¬t.val % 14 = 0) (h1 : 1 ≤ t.val) (h2 : ¬t.val % 14 = 13) (hz : t.val ≠ 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3]
    rw [show (dats m 0 c).owesAt () t.succ = (dats m 0 c).owesAt () t.castSucc from rfl]
    rw [show (dats m 0 c).Φ t.succ = Inv m c (t.val + 1) t.isLt from rfl, Inv_succ]
    have hN : t.val < 14 := lt_of_lt_of_eq t.isLt N_eq
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4_B t (fun h => h0 ((hcond0_0 t).mp h)) ((hcond0_1 t).mpr h1) (fun h => h2 ((hcond0_2 t).mp h))) (noFlush0_4_B t (fun h => h0 ((hcond0_0 t).mp h)) ((hcond0_1 t).mpr h1) (fun h => h2 ((hcond0_2 t).mp h)))]
    rw [Dat.leavesExact_idle (dats m 0 c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
    rw [Inv_castSucc m c t, Inv_pos m c _ _ hz]
    rw [rowMax_pos m c t hz]
    iintro ⟨⟨⟨⟨%e0, %hf, HS0⟩, HS1⟩, Hg⟩, Ho, ⟨%d0, H0⟩, ⟨%d1, H1⟩, ⟨%d2, H2⟩, ⟨%d3, H3⟩, ⟨%d4, H4⟩, ⟨%d5, H5⟩⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) _ _ e0 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact filled_succ m c t e0 hf
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 9600000 in
/-- The body's triple at the last point. -/
theorem sound_C (c : Dev nD) (t : Fin cfg0.N) (h0 : ¬t.val % 14 = 0) (h1 : 1 ≤ t.val) (h2 : t.val % 14 = 13) (hz : t.val ≠ 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3]
    rw [show (dats m 0 c).owesAt () t.succ = (dats m 0 c).owesAt () t.castSucc from rfl]
    rw [show (dats m 0 c).Φ t.succ = Inv m c (t.val + 1) t.isLt from rfl, Inv_succ]
    have hN : t.val < 14 := lt_of_lt_of_eq t.isLt N_eq
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1) ((hcond0_2 t).mpr h2)], after0_4]
    rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) ((hcond0_2 t).mpr h2)], after0_5]
    rw [Inv_castSucc m c t, Inv_pos m c _ _ hz]
    have hmax : rowMax m c 13 (by rw [N_eq]; decide) = k0_pay1 (k0_pay7 (iblk m c 0 t) (iblk m c 2 t) (iblk m c 1 t) (iblk m c 3 t)) (rowMax m c (t.val - 1) (by omega)) := by
      rw [← rowMax_pos m c t hz]; congr 1; omega
    unfold outScale outCodes
    rw [hmax]
    rw [rowMax_pos m c t hz]
    iintro ⟨⟨⟨⟨%e0, %hf, HS0⟩, HS1⟩, Hg⟩, Ho, ⟨%d0, H0⟩, ⟨%d1, H1⟩, ⟨%d2, H2⟩, ⟨%d3, H3⟩, ⟨%d4, H4⟩, ⟨%d5, H5⟩⟩
    have hall : acts m c = sliceIn e0 (grid0.coords t) (k0_pay6 (iblk m c 0 t) (iblk m c 2 t) (iblk m c 1 t) (iblk m c 3 t)) := by
      have h14 : t.val + 1 = 14 := by omega
      exact (filled_all m c _ (h14 ▸ filled_succ m c t e0 hf)).symm
    rw [hall]
    iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) e0 _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact filled_succ m c t e0 hf
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body's triple at any point. -/
theorem sound_body (c : Dev nD) (t : Fin cfg0.N) :
    bodyPre m c t ⊢ wp frame (wpE (defs₀ (F := F)) Variants.none c none) Set.univ (bodyAt0 t) (fun _ => bodyPost m c t) := by
  have hN : t.val < 14 := lt_of_lt_of_eq t.isLt N_eq
  by_cases hz : t.val = 0
  · exact sound_A m c t (by omega) (by omega) (by omega) hz
  · by_cases h2 : t.val % 14 = 13
    · exact sound_C m c t (by omega) (by omega) h2 hz
    · exact sound_B m c t (by omega) (by omega) h2 hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, PhiA0_eq]
  iintro ⟨⟨⟨%e0, %_, HS0⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The kernel's frame: every execution ends with the four argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.PrintedPoints.lean ====
/- For the kernel as printed; the same steps as for its idealization. The conditions of the kernel body's three branches at a grid point, which points leave an output window idle, and the names of
   the buffers a point works on. The grid has 14 points: the first (case A) starts the running maximum, the later ones (case B)
   raise it, and the last one (case C) also stores the scale and the codes. -/
module

public import proofs.«01_k».proof.Proof.Gen.Kernel.Frame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_2, k0_cond3, e0]
    word_cmp
   : ∀ t : Fin grid0.N, cond0_2 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → ¬cond0_2 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → ¬cond0_2 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → cond0_1 (grid0.coords t) → ¬cond0_2 (grid0.coords t) → cfg0.idle 4 (grid0.coords t) = true := by decide +kernel
/-- At the points of case B the pipeline does not write output 4's block back. -/
theorem noFlush0_4_B : ∀ t : Fin cfg0.N, ¬cond0_0 (grid0.coords t) → cond0_1 (grid0.coords t) → ¬cond0_2 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cond0_2 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → ¬cond0_2 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → cond0_1 (grid0.coords t) → ¬cond0_2 (grid0.coords t) → cfg0.idle 5 (grid0.coords t) = true := by decide +kernel
/-- At the points of case B the pipeline does not write output 5's block back. -/
theorem noFlush0_5_B : ∀ t : Fin cfg0.N, ¬cond0_0 (grid0.coords t) → cond0_1 (grid0.coords t) → ¬cond0_2 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cond0_2 (grid0.coords t) → cfg0.idle 5 (grid0.coords t) = false := by decide +kernel

/-- Each window's current staging memref at point `t`, spelled as the pipeline passes it (`bodyAt0`), and its wholeness. -/
abbrev ms0_0 (t : Fin cfg0.N) : Memref sig .tc .vmem S768x4608 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4608x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x7168 .fp8e4m3 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S768x7168 .f32 := Memref.whole cc0_scratch0
abbrev scM0_1 : Memref sig .tc .vmem S768x1 .f32 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.PrintedRuns.lean ====
/- For the kernel as printed; the same steps as for its idealization. What one run of the kernel body does to the buffers it is given, in each of its three cases: the triples are stated with the
   payload functions of the body's skeleton, and the scratch that holds the activations is tracked as a whole array in which the
   point's slice has been replaced. -/
module

public import proofs.«01_k».proof.Proof.PrintedPoints
public import proofs.«01_k».proof.Proof.Gen.Kernel.Skeleton
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The activations after a point: its slice of 512 columns replaced by the tile `w`. -/
def sliceIn (x : Vec F S768x7168 .f32) (i : grid0.Coords) (w : Vec F S768x512 .f32) : Vec F S768x7168 .f32 :=
  VecWindow.put x (k0_off1 i) S768x512.size w

set_option maxHeartbeats 1000000 in
/-- The first point: the slice of the activations is stored, and the running maximum starts at the slice's row maxima; the outputs stay as they are. -/
theorem run_A (c : Dev nD) (i : grid0.Coords) (arg1 : Memref sig .tc .vmem S768x4608 .fp8e4m3) (harg1 : arg1.IsWhole) (arg2 : Memref sig .tc .vmem S768x1 .f32) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S768x1 .f32) (harg5 : arg5.IsWhole) (arg6 : Memref sig .tc .vmem S768x7168 .fp8e4m3) (harg6 : arg6.IsWhole) (arg7 : Memref sig .tc .vmem S768x7168 .f32) (harg7 : arg7.IsWhole) (arg8 : Memref sig .tc .vmem S768x1 .f32) (harg8 : arg8.IsWhole) (hc0 : cond0_0 i) (hc1 : ¬cond0_1 i) (hc2 : ¬cond0_2 i)
    (x0 : Vec F S768x4608 .fp8e4m3) (x1 : Vec F S768x1 .f32) (x2 : Vec F S4608x512 .fp8e4m3) (x3 : Vec F S1x512 .f32) (x4 : Vec F S768x1 .f32) (x5 : Vec F S768x7168 .fp8e4m3) (xs0 : Vec F S768x7168 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (sliceIn xs0 i (k0_pay6 x0 x2 x1 x3)) ∗ owns (c : Thread nD τ) arg8 fullShare (k0_pay8 x0 x2 x1 x3)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1 | sl_exact hc2)
    sl_step
    have e1 : arg1.view.readAt (Elt F) (Rect.unit ![0, 0] S768x4608.size inb_S768x4608_S768x4608_0_0).toLoadRect (harg1.unread x0) = x0 := (View.readAt_full _ _ _).trans (harg1.read_unread x0)
    have e2 : arg2.view.readAt (Elt F) (Rect.unit ![0, 0] S768x1.size inb_S768x1_S768x1_0_0).toLoadRect (harg2.unread x1) = x1 := (View.readAt_full _ _ _).trans (harg2.read_unread x1)
    have e3 : arg3.view.readAt (Elt F) (Rect.unit ![0, 0] S4608x512.size inb_S4608x512_S4608x512_0_0).toLoadRect (harg3.unread x2) = x2 := (View.readAt_full _ _ _).trans (harg3.read_unread x2)
    have e4 : arg4.view.readAt (Elt F) (Rect.unit ![0, 0] S1x512.size inb_S1x512_S1x512_0_0).toLoadRect (harg4.unread x3) = x3 := (View.readAt_full _ _ _).trans (harg4.read_unread x3)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    isplitl [H5]
    · iexists _; isplitr; · ipureintro; exact hf5
      iexact H5
    isplitl [HS0]
    · iexists _; isplitr; swap; · iexact HS0
      ipureintro
      refine (View.read_writes_cons_put _ _ _ _ _ rfl).trans ?_
      rw [View.writes_nil, harg7.read_unread, e1, e2, e3, e4]; rfl
    iexists _; isplitr; swap; · iexact HS1
    ipureintro
    refine (View.read_writes_full _ _ _ _ _).trans ?_
    rw [e1, e2, e3, e4]

set_option maxHeartbeats 1000000 in
/-- A later point but the last: the slice is stored and the running maximum is raised by the slice's row maxima; the outputs stay as they are. -/
theorem run_B (c : Dev nD) (i : grid0.Coords) (arg1 : Memref sig .tc .vmem S768x4608 .fp8e4m3) (harg1 : arg1.IsWhole) (arg2 : Memref sig .tc .vmem S768x1 .f32) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S768x1 .f32) (harg5 : arg5.IsWhole) (arg6 : Memref sig .tc .vmem S768x7168 .fp8e4m3) (harg6 : arg6.IsWhole) (arg7 : Memref sig .tc .vmem S768x7168 .f32) (harg7 : arg7.IsWhole) (arg8 : Memref sig .tc .vmem S768x1 .f32) (harg8 : arg8.IsWhole) (hc0 : ¬cond0_0 i) (hc1 : cond0_1 i) (hc2 : ¬cond0_2 i)
    (x0 : Vec F S768x4608 .fp8e4m3) (x1 : Vec F S768x1 .f32) (x2 : Vec F S4608x512 .fp8e4m3) (x3 : Vec F S1x512 .f32) (x4 : Vec F S768x1 .f32) (x5 : Vec F S768x7168 .fp8e4m3) (xs0 : Vec F S768x7168 .f32) (xs1 : Vec F S768x1 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (sliceIn xs0 i (k0_pay6 x0 x2 x1 x3)) ∗ owns (c : Thread nD τ) arg8 fullShare (k0_pay1 (k0_pay7 x0 x2 x1 x3) xs1)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0 | sl_exact hc1 | sl_exact hc2)
    sl_step
    have e1 : arg1.view.readAt (Elt F) (Rect.unit ![0, 0] S768x4608.size inb_S768x4608_S768x4608_0_0).toLoadRect (harg1.unread x0) = x0 := (View.readAt_full _ _ _).trans (harg1.read_unread x0)
    have e2 : arg2.view.readAt (Elt F) (Rect.unit ![0, 0] S768x1.size inb_S768x1_S768x1_0_0).toLoadRect (harg2.unread x1) = x1 := (View.readAt_full _ _ _).trans (harg2.read_unread x1)
    have e3 : arg3.view.readAt (Elt F) (Rect.unit ![0, 0] S4608x512.size inb_S4608x512_S4608x512_0_0).toLoadRect (harg3.unread x2) = x2 := (View.readAt_full _ _ _).trans (harg3.read_unread x2)
    have e4 : arg4.view.readAt (Elt F) (Rect.unit ![0, 0] S1x512.size inb_S1x512_S1x512_0_0).toLoadRect (harg4.unread x3) = x3 := (View.readAt_full _ _ _).trans (harg4.read_unread x3)
    have e8 : arg8.view.readAt (Elt F) (Rect.unit ![0, 0] ![768, 1] inb_S768x1_S768x1_0_0).toLoadRect (harg8.unread xs1) = xs1 := (View.readAt_full _ _ _).trans (harg8.read_unread xs1)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    isplitl [H5]
    · iexists _; isplitr; · ipureintro; exact hf5
      iexact H5
    isplitl [HS0]
    · iexists _; isplitr; swap; · iexact HS0
      ipureintro
      refine (View.read_writes_cons_put _ _ _ _ _ rfl).trans ?_
      rw [View.writes_nil, harg7.read_unread, e1, e2, e3, e4]; rfl
    iexists _; isplitr; swap; · iexact HS1
    ipureintro
    refine (View.read_writes_full _ _ _ _ _).trans ?_
    unfold run_B.sl.r; rw [e1, e2, e3, e4, e8]

set_option maxHeartbeats 1000000 in
/-- The last point: besides the slice and the running maximum, the scale and the codes are stored, both computed from the maximum just raised and from all the activations, the slice just stored among them. -/
theorem run_C (c : Dev nD) (i : grid0.Coords) (arg1 : Memref sig .tc .vmem S768x4608 .fp8e4m3) (harg1 : arg1.IsWhole) (arg2 : Memref sig .tc .vmem S768x1 .f32) (harg2 : arg2.IsWhole) (arg3 : Memref sig .tc .vmem S4608x512 .fp8e4m3) (harg3 : arg3.IsWhole) (arg4 : Memref sig .tc .vmem S1x512 .f32) (harg4 : arg4.IsWhole) (arg5 : Memref sig .tc .vmem S768x1 .f32) (harg5 : arg5.IsWhole) (arg6 : Memref sig .tc .vmem S768x7168 .fp8e4m3) (harg6 : arg6.IsWhole) (arg7 : Memref sig .tc .vmem S768x7168 .f32) (harg7 : arg7.IsWhole) (arg8 : Memref sig .tc .vmem S768x1 .f32) (harg8 : arg8.IsWhole) (hc0 : ¬cond0_0 i) (hc1 : cond0_1 i) (hc2 : cond0_2 i)
    (x0 : Vec F S768x4608 .fp8e4m3) (x1 : Vec F S768x1 .f32) (x2 : Vec F S4608x512 .fp8e4m3) (x3 : Vec F S1x512 .f32) (xs0 : Vec F S768x7168 .f32) (xs1 : Vec F S768x1 .f32) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay4 (k0_pay1 (k0_pay7 x0 x2 x1 x3) xs1)) ∗ owns (c : Thread nD τ) arg6 fullShare (k0_pay2 (k0_pay3 (k0_pay1 (k0_pay7 x0 x2 x1 x3) xs1)) (sliceIn xs0 i (k0_pay6 x0 x2 x1 x3))) ∗ owns (c : Thread nD τ) arg7 fullShare (sliceIn xs0 i (k0_pay6 x0 x2 x1 x3)) ∗ owns (c : Thread nD τ) arg8 fullShare (k0_pay1 (k0_pay7 x0 x2 x1 x3) xs1)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
    simp only [cc0__body_eq_skeleton]; unfold cc0__body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0 | sl_exact hc1 | sl_exact hc2)
    sl_step
    have e1 : arg1.view.readAt (Elt F) (Rect.unit ![0, 0] S768x4608.size inb_S768x4608_S768x4608_0_0).toLoadRect (harg1.unread x0) = x0 := (View.readAt_full _ _ _).trans (harg1.read_unread x0)
    have e2 : arg2.view.readAt (Elt F) (Rect.unit ![0, 0] S768x1.size inb_S768x1_S768x1_0_0).toLoadRect (harg2.unread x1) = x1 := (View.readAt_full _ _ _).trans (harg2.read_unread x1)
    have e3 : arg3.view.readAt (Elt F) (Rect.unit ![0, 0] S4608x512.size inb_S4608x512_S4608x512_0_0).toLoadRect (harg3.unread x2) = x2 := (View.readAt_full _ _ _).trans (harg3.read_unread x2)
    have e4 : arg4.view.readAt (Elt F) (Rect.unit ![0, 0] S1x512.size inb_S1x512_S1x512_0_0).toLoadRect (harg4.unread x3) = x3 := (View.readAt_full _ _ _).trans (harg4.read_unread x3)
    have e8 : arg8.view.readAt (Elt F) (Rect.unit ![0, 0] ![768, 1] inb_S768x1_S768x1_0_0).toLoadRect (harg8.unread xs1) = xs1 := (View.readAt_full _ _ _).trans (harg8.read_unread xs1)
    have hr : run_C.sl.r c arg1 harg1 arg2 harg2 arg3 harg3 arg4 harg4 x0 x1 x2 x3 = k0_pay7 x0 x2 x1 x3 := by
      unfold run_C.sl.r; rw [e1, e2, e3, e4]
    have hv : run_C.sl.v42 c arg1 harg1 arg2 harg2 arg3 harg3 arg4 harg4 arg8 harg8 x0 x1 x2 x3 xs1 = k0_pay1 (k0_pay7 x0 x2 x1 x3) xs1 := by
      unfold run_C.sl.v42 run_C.sl.HS1_1
      refine (View.readCov_full _ _ _ _ _).trans ?_
      rw [hr, e8]
    have h7 : View.read (Elt F) arg7.view (arg7.view.writes (Elt F) (harg7.unread xs0) (run_C.sl.HS0_1 c i arg1 harg1 arg2 harg2 arg3 harg3 arg4 harg4 x0 x1 x2 x3)) = sliceIn xs0 i (k0_pay6 x0 x2 x1 x3) := by
      unfold run_C.sl.HS0_1
      refine (View.read_writes_cons_put _ _ _ _ _ rfl).trans ?_
      rw [View.writes_nil, harg7.read_unread, e1, e2, e3, e4]; rfl
    have h8 : run_C.sl.v82 c i arg1 harg1 arg2 harg2 arg3 harg3 arg4 harg4 arg7 harg7 x0 x1 x2 x3 xs0 = sliceIn xs0 i (k0_pay6 x0 x2 x1 x3) := by
      unfold run_C.sl.v82
      exact (View.readAt_full _ _ _).trans h7
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      unfold run_C.sl.r_2; rw [hv]
    isplitl [H5]
    · iexists _; isplitr; swap; · iexact H5
      ipureintro
      refine (View.read_writes_full _ _ _ _ _).trans ?_
      unfold run_C.sl.r_1; rw [hv, h8]
    isplitl [HS0]
    · iexists _; isplitr; swap; · iexact HS0
      ipureintro
      exact h7
    iexists _; isplitr; swap; · iexact HS1
    ipureintro
    unfold run_C.sl.HS1_1
    refine (View.read_writes_full _ _ _ _ _).trans ?_
    rw [hr, e8]

end Cert.Kernel.Hand

end
-- ==== Proof.PrintedFrame.lean ====
/- For the kernel as printed; the same steps as for its idealization. The kernel's run over its whole grid. The scratch that carries the running maximum holds after a point the running maximum of the
   tiles up to it (`rowMax`); of the scratch that holds the activations the columns of the tiles up to the point are known
   (`Filled`), and at the last point they are all of them, so the scale and the codes stored there are functions of the row maxima
   and of the whole activations (`acts`). -/
module

public import proofs.«01_k».proof.Proof.PrintedRuns
public import Idealize.ShloMosaic.Lib.ValueIdxCore
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix2)

variable (m : (ℓ : Loc nD τ sig) → Buf (Elt F) ℓ) (ρ : Dev nD → PrngReg)

/-- The grid has 14 points. -/
theorem N_eq : cfg0.N = 14 := N_0

/-- The tile of activations of point `t`: 512 columns, computed from the point's four input blocks. -/
def tile (c : Dev nD) (t : Fin cfg0.N) : Vec F S768x512 .f32 := k0_pay6 (iblk m c 0 t) (iblk m c 2 t) (iblk m c 1 t) (iblk m c 3 t)

/-- The row maxima of point `t`'s tile. -/
def tileMax (c : Dev nD) (t : Fin cfg0.N) : Vec F S768x1 .f32 := k0_pay7 (iblk m c 0 t) (iblk m c 2 t) (iblk m c 1 t) (iblk m c 3 t)

/-- The running row maximum after point `n`. -/
def rowMax (c : Dev nD) : (n : ℕ) → n < cfg0.N → Vec F S768x1 .f32
  | 0, h => k0_pay8 (iblk m c 0 ⟨0, h⟩) (iblk m c 2 ⟨0, h⟩) (iblk m c 1 ⟨0, h⟩) (iblk m c 3 ⟨0, h⟩)
  | n + 1, h => k0_pay1 (tileMax m c ⟨n + 1, h⟩) (rowMax c n (Nat.lt_of_succ_lt h))

/-- The point whose tile has column `k`. -/
def pointOf (k : Fin 7168) : Fin cfg0.N := ⟨k.val / 512, by have := k.isLt; have := N_eq; omega⟩

/-- All the activations, column `k` from the tile of point `k / 512`. -/
def acts (c : Dev nD) : Vec F S768x7168 .f32 := fun i =>
  tile m c (pointOf (i 1)) (ix2 (n0 := 768) (n1 := 512) (i 0) ⟨(i 1).val % 512, Nat.mod_lt _ (by decide)⟩)

/-- The columns of the first `n` tiles hold the activations. -/
def Filled (c : Dev nD) (n : ℕ) (d : Vec F S768x7168 .f32) : Prop := ∀ i : S768x7168.Idx, (i 1).val < 512 * n → d i = acts m c i

theorem filled_zero (c : Dev nD) (d : Vec F S768x7168 .f32) : Filled m c 0 d := fun i h => absurd h (Nat.not_lt_zero _)

/-- The slice of point `t` starts at column `512 * t`. -/
theorem off_eq : ∀ t : Fin cfg0.N, k0_off1 (grid0.coords t) = ![0, 512 * t.val] :=
  (by decide +kernel : ∀ t : Fin grid0.N, k0_off1 (grid0.coords t) = ![0, 512 * t.val])

/-- Storing the tile of point `t` fills the tiles up to it. -/
theorem filled_succ (c : Dev nD) (t : Fin cfg0.N) (d : Vec F S768x7168 .f32) (h : Filled m c t.val d) :
    Filled m c (t.val + 1) (sliceIn d (grid0.coords t) (tile m c t)) := by
  intro i hi
  unfold sliceIn
  rw [off_eq]
  by_cases hlt : (i 1).val < 512 * t.val
  · have hn : ¬ ∀ a, (![0, 512 * t.val] : Fin 2 → ℕ) a ≤ (i a).val ∧ (i a).val < (![0, 512 * t.val] : Fin 2 → ℕ) a + S768x512.size a := fun hall => by
      have := (hall 1).1
      change 512 * t.val ≤ (i 1).val at this
      omega
    exact (dif_neg hn).trans (h i hlt)
  · have h0 : (i 0).val < 768 := (i 0).isLt
    have hp : ∀ a, (![0, 512 * t.val] : Fin 2 → ℕ) a ≤ (i a).val ∧ (i a).val < (![0, 512 * t.val] : Fin 2 → ℕ) a + S768x512.size a :=
      Fin.forall_fin_two.mpr ⟨⟨Nat.zero_le _, by show (i 0).val < 0 + 768; omega⟩,
        by show 512 * t.val ≤ (i 1).val; omega, by show (i 1).val < 512 * t.val + 512; omega⟩
    refine (dif_pos hp).trans ?_
    unfold acts
    have ht : pointOf (i 1) = t := Fin.ext (by show (i 1).val / 512 = t.val; omega)
    rw [ht]
    refine congrArg (tile m c t) (funext fun a => ?_)
    match a with
    | ⟨0, _⟩ => exact Fin.ext (by show (i 0).val - 0 = (i 0).val; omega)
    | ⟨1, _⟩ => exact Fin.ext (by show (i 1).val - 512 * t.val = (i 1).val % 512; omega)

/-- Once all the tiles are filled the scratch is the activations. -/
theorem filled_all (c : Dev nD) (d : Vec F S768x7168 .f32) (h : Filled m c 14 d) : d = acts m c :=
  funext fun i => h i (by have h1 : (i 1).val < 7168 := (i 1).isLt; omega)

/-- The scale stored at the last point. -/
def outScale (c : Dev nD) : Vec F S768x1 .f32 := k0_pay4 (rowMax m c 13 (by rw [N_eq]; decide))

/-- The codes stored at the last point. -/
def outCodes (c : Dev nD) : Vec F S768x7168 .fp8e4m3 := k0_pay2 (k0_pay3 (rowMax m c 13 (by rw [N_eq]; decide))) (acts m c)

/-- What is known of the scratch before point `n`: before the first nothing; afterwards the filled tiles and the running maximum. -/
def Inv (c : Dev nD) : (n : ℕ) → n ≤ cfg0.N → sProp (MT nD τ sig Unit (Elt F) ℕ (UR sig nD τ) ℕ)
  | 0, _ => Pipeline.ΦA spec0 c
  | n + 1, hn => iprop(iprop((∃ d, ⌜Filled m c (n + 1) d⌝ ∗ owns (c : Thread nD τ) scM0_0 fullShare d) ∗ owns (c : Thread nD τ) scM0_1 fullShare (rowMax m c n hn)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop((∃ d, ⌜Filled m c (n + 1) d⌝ ∗ owns (c : Thread nD τ) scM0_0 fullShare d) ∗ owns (c : Thread nD τ) scM0_1 fullShare (rowMax m c n hn)) ∗ (∃ r, prngReg c r)) := rfl

theorem Inv_pos (c : Dev nD) (n : ℕ) (h : n ≤ cfg0.N) (hz : n ≠ 0) :
    Inv m c n h = iprop(iprop((∃ d, ⌜Filled m c n d⌝ ∗ owns (c : Thread nD τ) scM0_0 fullShare d) ∗ owns (c : Thread nD τ) scM0_1 fullShare (rowMax m c (n - 1) (by omega))) ∗ (∃ r, prngReg c r)) := by
  cases n with
  | zero => exact absurd rfl hz
  | succ n => rfl

theorem rowMax_zero (c : Dev nD) (t : Fin cfg0.N) (hz : t.val = 0) :
    rowMax m c t.val t.isLt = k0_pay8 (iblk m c 0 t) (iblk m c 2 t) (iblk m c 1 t) (iblk m c 3 t) := by
  obtain ⟨n, hn⟩ := t
  cases n with
  | zero => rfl
  | succ n => exact absurd hz (Nat.succ_ne_zero n)

theorem rowMax_pos (c : Dev nD) (t : Fin cfg0.N) (hz : t.val ≠ 0) :
    rowMax m c t.val t.isLt = k0_pay1 (k0_pay7 (iblk m c 0 t) (iblk m c 2 t) (iblk m c 1 t) (iblk m c 3 t)) (rowMax m c (t.val - 1) (by omega)) := by
  obtain ⟨n, hn⟩ := t
  cases n with
  | zero => exact absurd rfl hz
  | succ n => rfl

/-- The proof data: each input's buffer keeps its block, the two outputs end at the scale and the codes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScale m c
    | ⟨5, _⟩ => outCodes m c
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outScale m c := by dsimp only [dats]
theorem after0_5 (c : Dev nD) (t : Fin cfg0.N) : (dats m 0 c).after 5 t = outCodes m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body's triple at the first point. -/
theorem sound_A (c : Dev nD) (t : Fin cfg0.N) (h0 : t.val % 14 = 0) (h1 : ¬1 ≤ t.val) (h2 : ¬t.val % 14 = 13) (hz : t.val = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3]
    rw [show (dats m 0 c).owesAt () t.succ = (dats m 0 c).owesAt () t.castSucc from rfl]
    rw [show (dats m 0 c).Φ t.succ = Inv m c (t.val + 1) t.isLt from rfl, Inv_succ]
    have hN : t.val < 14 := lt_of_lt_of_eq t.isLt N_eq
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4_A t ((hcond0_0 t).mpr h0) (fun h => h1 ((hcond0_1 t).mp h)) (fun h => h2 ((hcond0_2 t).mp h))) (noFlush0_4_A t ((hcond0_0 t).mpr h0) (fun h => h1 ((hcond0_1 t).mp h)) (fun h => h2 ((hcond0_2 t).mp h)))]
    rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
    rw [Inv_castSucc m c t, Inv_zero m c _ _ hz, PhiA0_eq, rowMax_zero m c t hz]
    iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩⟩
    have hf : Filled m c t.val e0 := hz ▸ filled_zero m c e0
    iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) _ _ e0 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact filled_succ m c t e0 hf
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 9600000 in
/-- The body's triple at a point between the first and the last. -/
theorem sound_B (c : Dev nD) (t : Fin cfg0.N) (h0 : ¬t.val % 14 = 0) (h1 : 1 ≤ t.val) (h2 : ¬t.val % 14 = 13) (hz : t.val ≠ 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3]
    rw [show (dats m 0 c).owesAt () t.succ = (dats m 0 c).owesAt () t.castSucc from rfl]
    rw [show (dats m 0 c).Φ t.succ = Inv m c (t.val + 1) t.isLt from rfl, Inv_succ]
    have hN : t.val < 14 := lt_of_lt_of_eq t.isLt N_eq
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4_B t (fun h => h0 ((hcond0_0 t).mp h)) ((hcond0_1 t).mpr h1) (fun h => h2 ((hcond0_2 t).mp h))) (noFlush0_4_B t (fun h => h0 ((hcond0_0 t).mp h)) ((hcond0_1 t).mpr h1) (fun h => h2 ((hcond0_2 t).mp h)))]
    rw [Dat.leavesExact_idle (dats m 0 c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
    rw [Inv_castSucc m c t, Inv_pos m c _ _ hz]
    rw [rowMax_pos m c t hz]
    iintro ⟨⟨⟨⟨%e0, %hf, HS0⟩, HS1⟩, Hg⟩, Ho, ⟨%d0, H0⟩, ⟨%d1, H1⟩, ⟨%d2, H2⟩, ⟨%d3, H3⟩, ⟨%d4, H4⟩, ⟨%d5, H5⟩⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) _ _ e0 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact filled_succ m c t e0 hf
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 9600000 in
/-- The body's triple at the last point. -/
theorem sound_C (c : Dev nD) (t : Fin cfg0.N) (h0 : ¬t.val % 14 = 0) (h1 : 1 ≤ t.val) (h2 : t.val % 14 = 13) (hz : t.val ≠ 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3]
    rw [show (dats m 0 c).owesAt () t.succ = (dats m 0 c).owesAt () t.castSucc from rfl]
    rw [show (dats m 0 c).Φ t.succ = Inv m c (t.val + 1) t.isLt from rfl, Inv_succ]
    have hN : t.val < 14 := lt_of_lt_of_eq t.isLt N_eq
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1) ((hcond0_2 t).mpr h2)], after0_4]
    rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) ((hcond0_2 t).mpr h2)], after0_5]
    rw [Inv_castSucc m c t, Inv_pos m c _ _ hz]
    have hmax : rowMax m c 13 (by rw [N_eq]; decide) = k0_pay1 (k0_pay7 (iblk m c 0 t) (iblk m c 2 t) (iblk m c 1 t) (iblk m c 3 t)) (rowMax m c (t.val - 1) (by omega)) := by
      rw [← rowMax_pos m c t hz]; congr 1; omega
    unfold outScale outCodes
    rw [hmax]
    rw [rowMax_pos m c t hz]
    iintro ⟨⟨⟨⟨%e0, %hf, HS0⟩, HS1⟩, Hg⟩, Ho, ⟨%d0, H0⟩, ⟨%d1, H1⟩, ⟨%d2, H2⟩, ⟨%d3, H3⟩, ⟨%d4, H4⟩, ⟨%d5, H5⟩⟩
    have hall : acts m c = sliceIn e0 (grid0.coords t) (k0_pay6 (iblk m c 0 t) (iblk m c 2 t) (iblk m c 1 t) (iblk m c 3 t)) := by
      have h14 : t.val + 1 = 14 := by omega
      exact (filled_all m c _ (h14 ▸ filled_succ m c t e0 hf)).symm
    rw [hall]
    iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) e0 _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact filled_succ m c t e0 hf
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body's triple at any point. -/
theorem sound_body (c : Dev nD) (t : Fin cfg0.N) :
    bodyPre m c t ⊢ wp frame (wpE (defs₀ (F := F)) Variants.none c none) Set.univ (bodyAt0 t) (fun _ => bodyPost m c t) := by
  have hN : t.val < 14 := lt_of_lt_of_eq t.isLt N_eq
  by_cases hz : t.val = 0
  · exact sound_A m c t (by omega) (by omega) (by omega) hz
  · by_cases h2 : t.val % 14 = 13
    · exact sound_C m c t (by omega) (by omega) h2 hz
    · exact sound_B m c t (by omega) (by omega) h2 hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, PhiA0_eq]
  iintro ⟨⟨⟨%e0, %_, HS0⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The kernel's frame: every execution ends with the four argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelValue.lean ====
/- The two results of the kernel, and its input blocks read off the arguments: the block of each output is its whole array, written back once, and the host lines after
   the region only reshape it. -/
module

public import proofs.«01_k».proof.Proof.KernelFrame
public import Idealize.ShloMosaic.Lib.Pipeline.Value
public import Idealize.ShloMosaic.Lib.Claim
public import Idealize.ShloMosaic.Lib.ValueIdxCore

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix2)

variable (m : (ℓ : Loc nD τ sig) → Buf (Elt F) ℓ) (ρ : Dev nD → PrngReg)

/-- The one block of output window 4 is its whole array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Some point writes it back. -/
theorem flushes4 : ∃ t : Fin cfg0.N, (cfg0.win 4).flush t = true :=
  (by decide +kernel : ∃ t : Fin grid0.N, (cfg0.win 4).flush t = true)

/-- After the region the array of window 4 is the scale. -/
theorem arr4 (c : Dev nD) : (dats m 0 c).arrAt 4 cfg0.N = outScale m c :=
  (dats m 0 c).arrAt_eq_of_cover 4 _ (fun t hf => by
    show (cfg0.win 4).cut (grid0.coords t) ((dats m 0 c).after 4 t) = _
    rw [after0_4]
    obtain ⟨e0, e1⟩ := idx4 t
    funext y
    show outScale m c ((cfg0.win 4).xinj (grid0.coords t) y) = outScale m c (((cfg0.win 4).blk t).view.emb y)
    refine congrArg (outScale m c) (funext fun a => Fin.ext ?_)
    match a with
    | ⟨0, _⟩ => show (y 0).val = win0_4.index t (0 : Fin 2) * 768 + 1 * (y 0).val; omega
    | ⟨1, _⟩ => show (y 1).val = win0_4.index t (1 : Fin 2) * 1 + 1 * (y 1).val; omega)
  (fun i => by
    obtain ⟨t, hf⟩ := flushes4
    obtain ⟨e0, e1⟩ := idx4 t
    refine ⟨t, hf, ?_⟩
    show i ∈ ((View.whole (Pipeline.arrRef spec0 4)).slice (win0_4.rect t)).set
    rw [View.set_slice_whole, Rect.mem_set_unit]
    have hi0 : (i 0).val < 768 := (i 0).isLt
    have hi1 : (i 1).val < 1 := (i 1).isLt
    intro a
    match a with
    | ⟨0, _⟩ => show win0_4.index t (0 : Fin 2) * 768 ≤ (i 0).val ∧ (i 0).val < win0_4.index t (0 : Fin 2) * 768 + 768; omega
    | ⟨1, _⟩ => show win0_4.index t (1 : Fin 2) * 1 ≤ (i 1).val ∧ (i 1).val < win0_4.index t (1 : Fin 2) * 1 + 1; omega)

/-- The one block of output window 5 is its whole array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Some point writes it back. -/
theorem flushes5 : ∃ t : Fin cfg0.N, (cfg0.win 5).flush t = true :=
  (by decide +kernel : ∃ t : Fin grid0.N, (cfg0.win 5).flush t = true)

/-- After the region the array of window 5 is the codes. -/
theorem arr5 (c : Dev nD) : (dats m 0 c).arrAt 5 cfg0.N = outCodes m c :=
  (dats m 0 c).arrAt_eq_of_cover 5 _ (fun t hf => by
    show (cfg0.win 5).cut (grid0.coords t) ((dats m 0 c).after 5 t) = _
    rw [after0_5]
    obtain ⟨e0, e1⟩ := idx5 t
    funext y
    show outCodes m c ((cfg0.win 5).xinj (grid0.coords t) y) = outCodes m c (((cfg0.win 5).blk t).view.emb y)
    refine congrArg (outCodes m c) (funext fun a => Fin.ext ?_)
    match a with
    | ⟨0, _⟩ => show (y 0).val = win0_5.index t (0 : Fin 2) * 768 + 1 * (y 0).val; omega
    | ⟨1, _⟩ => show (y 1).val = win0_5.index t (1 : Fin 2) * 7168 + 1 * (y 1).val; omega)
  (fun i => by
    obtain ⟨t, hf⟩ := flushes5
    obtain ⟨e0, e1⟩ := idx5 t
    refine ⟨t, hf, ?_⟩
    show i ∈ ((View.whole (Pipeline.arrRef spec0 5)).slice (win0_5.rect t)).set
    rw [View.set_slice_whole, Rect.mem_set_unit]
    have hi0 : (i 0).val < 768 := (i 0).isLt
    have hi1 : (i 1).val < 7168 := (i 1).isLt
    intro a
    match a with
    | ⟨0, _⟩ => show win0_5.index t (0 : Fin 2) * 768 ≤ (i 0).val ∧ (i 0).val < win0_5.index t (0 : Fin 2) * 768 + 768; omega
    | ⟨1, _⟩ => show win0_5.index t (1 : Fin 2) * 7168 ≤ (i 1).val ∧ (i 1).val < win0_5.index t (1 : Fin 2) * 7168 + 7168; omega)

/-- The last host lines reshape it into the result `main_v3`. -/
theorem res3 (c : Dev nD) :
    Pipeline.afterTail₀ cfgs (dats m) 0 (V0 m) [hostOps1] c main_v3 = shapeCast S1x768x1 (outScale m c) shapeCasts_S768x1_S1x768x1 := by
  have h : Pipeline.withArrays spec0 c (V0 m c) (fun w => (dats m 0 c).arrAt w cfg0.N) (Proc.devRef .tc main_v2_0) = outScale m c :=
    (Pipeline.withArrays_arr spec0 launch0.win.arr_inj c (V0 m c) (fun w => (dats m 0 c).arrAt w cfg0.N) 4).trans (arr4 m c)
  unfold Pipeline.afterTail₀
  entry_read
  rw [← h]
  rfl

/-- The last host lines reshape it into the result `main_v4`. -/
theorem res4 (c : Dev nD) :
    Pipeline.afterTail₀ cfgs (dats m) 0 (V0 m) [hostOps1] c main_v4 = shapeCast S1x768x7168 (outCodes m c) shapeCasts_S768x7168_S1x768x7168 := by
  have h : Pipeline.withArrays spec0 c (V0 m c) (fun w => (dats m 0 c).arrAt w cfg0.N) (Proc.devRef .tc main_v2_1) = outCodes m c :=
    (Pipeline.withArrays_arr spec0 launch0.win.arr_inj c (V0 m c) (fun w => (dats m 0 c).arrAt w cfg0.N) 5).trans (arr5 m c)
  unfold Pipeline.afterTail₀
  entry_read
  rw [← h]
  rfl

/-- The run: every execution ends with the two results at the reshaped scale and codes, and the arguments as launched. -/
theorem run_value : θ_run defs (onTc (τ := τ) (main (F := F))) ⟨m, fun _ => 0, ρ⟩ (fun r => ∀ c : Dev nD,
      r.2.mem ((c.tc : Thread nD τ).loc main_v3) = shapeCast S1x768x1 (outScale m c) shapeCasts_S768x1_S1x768x1
      ∧ r.2.mem ((c.tc : Thread nD τ).loc main_v4) = shapeCast S1x768x7168 (outCodes m c) shapeCasts_S768x7168_S1x768x7168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (res3 m c),
      ((h c).2 main_v4 (Pipeline.mem_restRefs_of main_v4 (by decide) (by decide))).trans (res4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

/-! ## The input blocks, read off the arguments -/

theorem bidx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The block of the activation codes: the whole argument without its leading axis. -/
theorem blk0 (c : Dev nD) (t : Fin cfg0.N) :
    iblk m c 0 t = shapeCast S768x4608 (m ((c : Thread nD τ).loc main_arg0)) shapeCasts_S1x768x4608_S768x4608 := by
  obtain ⟨e0, e1⟩ := bidx0 t
  have h : V m c (Pipeline.arrRef spec0 0) = shapeCast S768x4608 (m ((c : Thread nD τ).loc main_arg0)) shapeCasts_S1x768x4608_S768x4608 := by
    show V m c main_v0 = _
    entry_read
    rfl
  unfold iblk
  rw [h]
  funext y
  refine congrArg (shapeCast S768x4608 (m ((c : Thread nD τ).loc main_arg0)) shapeCasts_S1x768x4608_S768x4608) (funext fun a => Fin.ext ?_)
  match a with
  | ⟨0, _⟩ => show win0_0.index t (0 : Fin 2) * 768 + 1 * (y 0).val = (y 0).val; omega
  | ⟨1, _⟩ => show win0_0.index t (1 : Fin 2) * 4608 + 1 * (y 1).val = (y 1).val; omega

theorem bidx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The block of the row scales: the whole argument without its leading axis. -/
theorem blk1 (c : Dev nD) (t : Fin cfg0.N) :
    iblk m c 1 t = shapeCast S768x1 (m ((c : Thread nD τ).loc main_arg1)) shapeCasts_S1x768x1_S768x1 := by
  obtain ⟨e0, e1⟩ := bidx1 t
  have h : V m c (Pipeline.arrRef spec0 1) = shapeCast S768x1 (m ((c : Thread nD τ).loc main_arg1)) shapeCasts_S1x768x1_S768x1 := by
    show V m c main_v1 = _
    entry_read
    rfl
  unfold iblk
  rw [h]
  funext y
  refine congrArg (shapeCast S768x1 (m ((c : Thread nD τ).loc main_arg1)) shapeCasts_S1x768x1_S768x1) (funext fun a => Fin.ext ?_)
  match a with
  | ⟨0, _⟩ => show win0_1.index t (0 : Fin 2) * 768 + 1 * (y 0).val = (y 0).val; omega
  | ⟨1, _⟩ => show win0_1.index t (1 : Fin 2) * 1 + 1 * (y 1).val = (y 1).val; omega

theorem bidx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- The block of the weight codes at point `t`: columns `512 * t` to `512 * t + 511`. -/
theorem blk2 (c : Dev nD) (t : Fin cfg0.N) (k : Fin 4608) (j : Fin 512) (q : Fin 7168) (hq : q.val = 512 * t.val + j.val) :
    iblk m c 2 t (ix2 (n0 := 4608) (n1 := 512) k j) = m ((c : Thread nD τ).loc main_arg2) (ix2 (n0 := 4608) (n1 := 7168) k q) := by
  obtain ⟨e0, e1⟩ := bidx2 t
  unfold iblk
  rw [show V m c (Pipeline.arrRef spec0 2) = m ((c : Thread nD τ).loc main_arg2) from V_main_arg2 m c]
  refine congrArg (m ((c : Thread nD τ).loc main_arg2)) (funext fun a => Fin.ext ?_)
  match a with
  | ⟨0, _⟩ => show win0_2.index t (0 : Fin 2) * 4608 + 1 * k.val = k.val; omega
  | ⟨1, _⟩ => show win0_2.index t (1 : Fin 2) * 512 + 1 * j.val = q.val; omega

theorem bidx3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

/-- The block of the column scales at point `t`: columns `512 * t` to `512 * t + 511`. -/
theorem blk3 (c : Dev nD) (t : Fin cfg0.N) (k : Fin 1) (j : Fin 512) (q : Fin 7168) (hq : q.val = 512 * t.val + j.val) :
    iblk m c 3 t (ix2 (n0 := 1) (n1 := 512) k j) = m ((c : Thread nD τ).loc main_arg3) (ix2 (n0 := 1) (n1 := 7168) k q) := by
  obtain ⟨e0, e1⟩ := bidx3 t
  unfold iblk
  rw [show V m c (Pipeline.arrRef spec0 3) = m ((c : Thread nD τ).loc main_arg3) from V_main_arg3 m c]
  refine congrArg (m ((c : Thread nD τ).loc main_arg3)) (funext fun a => Fin.ext ?_)
  match a with
  | ⟨0, _⟩ => show win0_3.index t (0 : Fin 2) * 1 + 1 * k.val = k.val; omega
  | ⟨1, _⟩ => show win0_3.index t (1 : Fin 2) * 512 + 1 * j.val = q.val; omega

end Cert.KernelIdeal.Hand

end
-- ==== Proof.Scalars.lean ====
/-
  The arithmetic of one row and one entry over the extended reals: the exponent of a row's maximum and the powers of two made of it, as the kernel
  computes them (by comparing with all the powers of two and by placing an exponent field) and as the reference states them (by logarithm and `exp2`).
-/
module

public import Idealize.ShloMosaic.Lib.Pointwise
public import Idealize.ShloMosaic.Lib.IndicatorCount
public import Idealize.ShloMosaic.Lib.MatmulPlain
public import Mathlib.Analysis.SpecialFunctions.Log.Basic
public import Mathlib.Algebra.Order.Archimedean.Basic

@[expose] public section

noncomputable section

namespace Cert.Scalars

open Idealize.ShloMosaic

/-- The power of two whose float has exponent field `n` and an empty significand: 0 at field 0, infinity at field 255. -/
def pw (n : ℕ) : EReal := if n = 255 then ⊤ else if n = 0 then 0 else (((2 : ℝ) ^ ((n : ℤ) - 127) : ℝ) : EReal)

/-- The three parts of such a float's pattern. -/
theorem field_parts : ∀ n : Fin 256, ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- The float with exponent field `n` denotes `pw n`. -/
theorem ofBits_field (n : ℕ) (h : n < 256) : Ideal.ofBits .f32 (IntOp.shli .vector (BitVec.ofNat 32 n) 23#32) = pw n := by
  obtain ⟨h1, h2, h3⟩ := field_parts ⟨n, h⟩
  simp only [] at h1 h2 h3
  show Ideal.ieee 8 23 _ = _
  unfold Ideal.ieee pw
  simp only [h1, h2, h3]
  by_cases ha : n = 255
  · simp [ha]
  · by_cases hb : n = 0
    · simp [hb]
    · rw [if_neg (by omega), if_neg hb, if_neg ha, if_neg hb]
      refine congrArg Real.toEReal ?_
      rw [show (n : ℤ) - 127 = (23 : ℤ) + ((n : ℤ) - (2 ^ (8 - 1) - 1) - (23 : ℕ)) by norm_num, zpow_add₀ two_ne_zero]
      norm_num

/-- How many of the powers of two `pw 1 … pw 255` are at most `v`, as the kernel counts them. -/
def count (v : EReal) : BitVec 32 :=
  Finset.fold IntOp.addi (0#32) (fun k : Fin 256 =>
    Scalar.select (IntOp.andi (BitVec.ofBool (decide (Ideal.ofBits .f32 (IntOp.shli .vector (BitVec.ofNat 32 k.val) 23#32) ≤ v)))
      (IntOp.cmpi .sgt (BitVec.ofNat 32 k.val) 0#32)) 1#32 0#32) Finset.univ

theorem sgt_zero : ∀ k : Fin 256, IntOp.cmpi .sgt (BitVec.ofNat 32 k.val) 0#32 = BitVec.ofBool (decide (0 < k.val)) := by decide +kernel

theorem card_upTo : ∀ M : Fin 256, (Finset.univ.filter fun k : Fin 256 => 0 < k.val ∧ k.val ≤ M.val).card = M.val := by decide +kernel

theorem select_bools : ∀ p q : Bool, Scalar.select (IntOp.andi (BitVec.ofBool p) (BitVec.ofBool q)) 1#32 0#32 = (BitVec.ofBool (p && q)).setWidth 32 := by
  decide

theorem ofBool_eq_one : ∀ b : Bool, BitVec.ofBool b = 1#1 ↔ b = true := by decide

/-- If exactly the first `M` of them are at most `v`, the count is `M`. -/
theorem count_eq (v : EReal) (M : ℕ) (hM : M < 256) (hle : ∀ k, 0 < k → k < 256 → (pw k ≤ v ↔ k ≤ M)) : count v = BitVec.ofNat 32 M := by
  unfold count
  have h : (fun k : Fin 256 => Scalar.select (IntOp.andi (BitVec.ofBool (decide (Ideal.ofBits .f32 (IntOp.shli .vector (BitVec.ofNat 32 k.val) 23#32) ≤ v)))
      (IntOp.cmpi .sgt (BitVec.ofNat 32 k.val) 0#32)) 1#32 0#32)
      = fun k : Fin 256 => (BitVec.ofBool (decide (0 < k.val ∧ k.val ≤ M))).setWidth 32 := by
    funext k
    rw [sgt_zero, ofBits_field k.val k.isLt, select_bools]
    refine congrArg (fun b => (BitVec.ofBool b).setWidth 32) ?_
    rw [← Bool.decide_and, decide_eq_decide]
    constructor
    · rintro ⟨h1, h2⟩; exact ⟨h2, (hle _ h2 k.isLt).1 h1⟩
    · rintro ⟨h1, h2⟩; exact ⟨(hle _ h1 k.isLt).2 h2, h1⟩
  rw [h, IndicatorCount.fold_addi_setWidth_eq_card (w := 32)]
  refine congrArg _ (Eq.trans (congrArg Finset.card (Finset.filter_congr fun k _ => ?_)) (card_upTo ⟨M, hM⟩))
  exact (ofBool_eq_one _).trans decide_eq_true_iff

/-- The kernel's exponent of `v`: from the count, and 0 where there is none or all. -/
def expoOf (v : EReal) : BitVec 32 :=
  Scalar.select (IntOp.ori (IntOp.cmpi .eq (count v) 0#32) (IntOp.cmpi .eq (count v) 255#32)) (0#32) (IntOp.subi (count v) 126#32)

theorem expoOf_field : ∀ M : Fin 256, (Scalar.select (IntOp.ori (IntOp.cmpi .eq (BitVec.ofNat 32 M.val) 0#32) (IntOp.cmpi .eq (BitVec.ofNat 32 M.val) 255#32)) (0#32)
    (IntOp.subi (BitVec.ofNat 32 M.val) 126#32)).toInt = if M.val = 0 ∨ M.val = 255 then 0 else (M.val : ℤ) - 126 := by decide +kernel

/-- The reference's exponent of `v`. -/
def refExpo (v : EReal) : EReal :=
  if Ideal.ofBits .f32 0x00800000#32 ≤ v ∧ v < ⊤ then Ideal.liftRound Int.floor (Ideal.div (Ideal.log v) (Ideal.log (Ideal.ofBits .f32 0x40000000#32))) + 1 else 0

theorem ofBits_two : Ideal.ofBits .f32 0x40000000#32 = ((2 : ℝ) : EReal) := by
  rw [show (0x40000000#32 : BitVec 32) = IntOp.shli .vector (BitVec.ofNat 32 128) 23#32 by decide, ofBits_field 128 (by decide)]
  norm_num [pw]

theorem ofBits_tiny : Ideal.ofBits .f32 0x00800000#32 = (((2 : ℝ) ^ (-126 : ℤ) : ℝ) : EReal) := by
  rw [show (0x00800000#32 : BitVec 32) = IntOp.shli .vector (BitVec.ofNat 32 1) 23#32 by decide, ofBits_field 1 (by decide)]
  unfold pw
  rw [if_neg (by decide), if_neg (by decide)]
  norm_num

/-- The two exponents agree: an integer at least -125 for the reference, the same cut at 128 for the kernel (beyond 128 there is no such float). -/
theorem expo_agree (v : EReal) : ∃ e : ℤ, -125 ≤ e ∧ refExpo v = ((e : ℝ) : EReal) ∧ (expoOf v).toInt = min e 128 := by
  have key : ∀ M : ℕ, M < 256 → (∀ k, 0 < k → k < 256 → (pw k ≤ v ↔ k ≤ M)) → (expoOf v).toInt = if M = 0 ∨ M = 255 then 0 else (M : ℤ) - 126 := by
    intro M hM hle
    unfold expoOf
    rw [count_eq v M hM hle]
    exact expoOf_field ⟨M, hM⟩
  by_cases ht : v = ⊤
  · refine ⟨0, by norm_num, ?_, ?_⟩
    · unfold refExpo; rw [if_neg (by simp [ht])]; simp
    · rw [key 255 (by decide) (fun k _ hk => by simp [ht]; omega)]; rfl
  by_cases hs : v < (((2 : ℝ) ^ (-126 : ℤ) : ℝ) : EReal)
  · refine ⟨0, by norm_num, ?_, ?_⟩
    · unfold refExpo; rw [if_neg (by rw [ofBits_tiny]; intro h; exact absurd h.1 (not_le.2 hs))]; simp
    · rw [key 0 (by decide) (fun k hk hk' => ?_)]
      · rfl
      · refine iff_of_false (fun h => ?_) (by omega)
        refine absurd (lt_of_le_of_lt h hs) (not_lt.2 ?_)
        unfold pw
        split
        · exact le_top
        · rw [if_neg (by omega), EReal.coe_le_coe_iff]
          exact zpow_le_zpow_right₀ (by norm_num) (by omega)
  · have hs' := not_lt.1 hs
    induction v using EReal.rec with
    | bot => exact absurd hs' (by simp)
    | top => exact absurd rfl ht
    | coe r =>
      have hr : (2 : ℝ) ^ (-126 : ℤ) ≤ r := EReal.coe_le_coe_iff.1 hs'
      have hr0 : 0 < r := lt_of_lt_of_le (by positivity) hr
      obtain ⟨E, hE1, hE2⟩ := exists_mem_Ico_zpow hr0 (by norm_num : (1 : ℝ) < 2)
      have up : ∀ n : ℤ, (2 : ℝ) ^ n ≤ r ↔ n ≤ E := fun n =>
        ⟨fun h => Int.lt_add_one_iff.1 ((zpow_lt_zpow_iff_right₀ (by norm_num : (1 : ℝ) < 2)).1 (lt_of_le_of_lt h hE2)),
          fun h => le_trans (zpow_le_zpow_right₀ (by norm_num) h) hE1⟩
      have hE : -126 ≤ E := (up _).1 hr
      refine ⟨E + 1, by omega, ?_, ?_⟩
      · unfold refExpo
        rw [if_pos ⟨by rw [ofBits_tiny]; exact hs', EReal.coe_lt_top r⟩, ofBits_two]
        have h1 : Ideal.log ((r : ℝ) : EReal) = ((Real.log r : ℝ) : EReal) := if_neg (not_le.2 hr0)
        have h2 : Ideal.log ((2 : ℝ) : EReal) = ((Real.log 2 : ℝ) : EReal) := if_neg (by norm_num)
        have h3 : 0 < Real.log 2 := Real.log_pos (by norm_num)
        have h4 : Ideal.div ((Real.log r : ℝ) : EReal) ((Real.log 2 : ℝ) : EReal) = ((Real.log r / Real.log 2 : ℝ) : EReal) := by
          unfold Ideal.div
          rw [if_neg (by exact_mod_cast h3.ne'), ← EReal.coe_inv, ← EReal.coe_mul]
          rfl
        rw [h1, h2, h4]
        show ((⌊Real.log r / Real.log 2⌋ : ℝ) : EReal) + 1 = _
        have h5 : ⌊Real.log r / Real.log 2⌋ = E := by
          rw [Int.floor_eq_iff]
          constructor
          · rw [le_div_iff₀ h3, ← Real.log_zpow]
            exact Real.log_le_log (by positivity) hE1
          · rw [div_lt_iff₀ h3, show ((E : ℝ) + 1) = ((E + 1 : ℤ) : ℝ) by push_cast; rfl, ← Real.log_zpow]
            exact Real.log_lt_log hr0 hE2
        rw [h5]
        push_cast
        rfl
      · have hpw : ∀ k : ℕ, 0 < k → k < 256 → (pw k ≤ ((r : ℝ) : EReal) ↔ k ≤ (min (E + 127) 254).toNat) := by
          intro k hk hk'
          unfold pw
          split
          · next h => subst h; exact iff_of_false (by simp) (by omega)
          · rw [if_neg (by omega), EReal.coe_le_coe_iff, up]
            omega
        rw [key _ (by omega) hpw]
        rw [if_neg (by omega)]
        omega

/-- 2 to the power `e` where a float has it, 0 below and infinity above. -/
def ld (e : ℤ) : EReal := if e < -126 then 0 else if 127 < e then ⊤ else (((2 : ℝ) ^ e : ℝ) : EReal)

/-- The kernel's power of two: `b` placed into the exponent field, clipped. -/
def ldBits (b : BitVec 32) : EReal := Ideal.ofBits .f32 (IntOp.shli .vector (IntOp.minsi (255#32) (IntOp.maxsi (0#32) (IntOp.addi b 127#32))) 23#32)

/-- The reference's power of two. -/
def ldExp (x : EReal) : EReal :=
  if x < Ideal.ofBits .f32 0xC2FC0000#32 then 0 else if Ideal.ofBits .f32 0x42FE0000#32 < x then ⊤ else Ideal.exp2 x

theorem clip_field : ∀ i : Fin 401, IntOp.minsi (255#32) (IntOp.maxsi (0#32) (IntOp.addi (BitVec.ofInt 32 ((i.val : ℤ) - 200)) 127#32))
    = BitVec.ofNat 32 (min 255 (max 0 ((i.val : ℤ) - 73))).toNat := by decide +kernel

theorem neg_field : ∀ i : Fin 401, (IntOp.subi (0#32) (BitVec.ofInt 32 ((i.val : ℤ) - 200))).toInt = 200 - (i.val : ℤ) := by decide +kernel

theorem ldBits_eq (b : BitVec 32) (h1 : -200 ≤ b.toInt) (h2 : b.toInt ≤ 200) : ldBits b = ld b.toInt := by
  have hb : b = BitVec.ofInt 32 (((b.toInt + 200).toNat : ℤ) - 200) := by
    rw [show (((b.toInt + 200).toNat : ℤ) - 200) = b.toInt by omega, BitVec.ofInt_toInt]
  have hc := clip_field ⟨(b.toInt + 200).toNat, by omega⟩
  rw [← hb] at hc
  unfold ldBits
  rw [hc, ofBits_field _ (by omega)]
  simp only []
  generalize hn : (min 255 (max 0 (((b.toInt + 200).toNat : ℤ) - 73))).toNat = n
  unfold pw ld
  by_cases c1 : b.toInt < -126
  · rw [if_neg (by omega), if_pos (by omega), if_pos c1]
  · by_cases c2 : 127 < b.toInt
    · rw [if_pos (by omega), if_neg c1, if_pos c2]
    · rw [if_neg (by omega), if_neg (by omega), if_neg c1, if_neg c2, show (n : ℤ) - 127 = b.toInt by omega]

theorem neg_toInt (b : BitVec 32) (h1 : -200 ≤ b.toInt) (h2 : b.toInt ≤ 200) : (IntOp.subi (0#32) b).toInt = - b.toInt := by
  have hb : b = BitVec.ofInt 32 (((b.toInt + 200).toNat : ℤ) - 200) := by
    rw [show (((b.toInt + 200).toNat : ℤ) - 200) = b.toInt by omega, BitVec.ofInt_toInt]
  have hc := neg_field ⟨(b.toInt + 200).toNat, by omega⟩
  rw [← hb] at hc
  rw [hc]
  show 200 - (((b.toInt + 200).toNat : ℕ) : ℤ) = _
  omega

theorem ofBits_low : Ideal.ofBits .f32 0xC2FC0000#32 = ((-126 : ℝ) : EReal) := by
  simp [Ideal.ofBits, Ideal.ieee]
  rw [← EReal.coe_mul]
  norm_num

theorem ofBits_high : Ideal.ofBits .f32 0x42FE0000#32 = ((127 : ℝ) : EReal) := by
  simp [Ideal.ofBits, Ideal.ieee]
  rw [← EReal.coe_mul]
  norm_num

theorem ldExp_eq (e : ℤ) : ldExp ((e : ℝ) : EReal) = ld e := by
  unfold ldExp ld
  rw [ofBits_low, ofBits_high]
  have c1 : (((e : ℝ) : EReal) < ((-126 : ℝ) : EReal)) ↔ e < -126 := by
    rw [EReal.coe_lt_coe_iff]; exact_mod_cast Iff.rfl
  have c2 : (((127 : ℝ) : EReal) < ((e : ℝ) : EReal)) ↔ 127 < e := by
    rw [EReal.coe_lt_coe_iff]; exact_mod_cast Iff.rfl
  simp only [c1, c2]
  split
  · rfl
  · split
    · rfl
    · show ((Real.rpow 2 (e : ℝ) : ℝ) : EReal) = _
      rw [show Real.rpow 2 (e : ℝ) = (2 : ℝ) ^ (e : ℝ) from rfl, Real.rpow_intCast]

/-- The scales agree … -/
theorem scale_agree (v : EReal) : ldBits (expoOf v) = ldExp (refExpo v) := by
  obtain ⟨e, h1, h2, h3⟩ := expo_agree v
  rw [h2, ldExp_eq, ldBits_eq _ (by omega) (by omega), h3]
  unfold ld
  by_cases c : e ≤ 127
  · rw [min_eq_left (by omega)]
  · rw [if_neg (by omega), if_pos (by omega), if_neg (by omega), if_pos (by omega)]

/-- … and so do the inverse scales. -/
theorem inverse_agree (v : EReal) : ldBits (IntOp.subi (0#32) (expoOf v)) = ldExp (0 - refExpo v) := by
  obtain ⟨e, h1, h2, h3⟩ := expo_agree v
  have hn := neg_toInt (expoOf v) (by omega) (by omega)
  have hz : (0 : EReal) - ((e : ℝ) : EReal) = (((-e : ℤ) : ℝ) : EReal) := by
    rw [zero_sub]; push_cast; rfl
  rw [h2, hz, ldExp_eq, ldBits_eq _ (by omega) (by omega), hn, h3]
  unfold ld
  by_cases c : e ≤ 128
  · rw [min_eq_left (by omega)]
  · rw [if_pos (by omega), if_pos (by omega)]

/-- The kernel's exponent of a row whose maximum is `a`. -/
def rowExpoBits (a : EReal) : BitVec 32 := if a = 0 then 0#32 else expoOf (a * Ideal.ofBits .f32 0x3B124925#32)

/-- The reference's exponent of a row whose maximum is `a`. -/
def rowExpo (a : EReal) : EReal := if a = 0 then 0 else refExpo (a * Ideal.ofBits .f32 0x3B124925#32)

theorem ldExp_zero : ldExp 0 = ld 0 := by
  have h := ldExp_eq 0
  rwa [show (((0 : ℤ) : ℝ) : EReal) = 0 by simp] at h

/-- The scale of a row is the same by either exponent … -/
theorem rowScale_agree (a : EReal) : ldBits (rowExpoBits a) = ldExp (rowExpo a) := by
  unfold rowExpoBits rowExpo
  split
  · rw [ldExp_zero]; exact ldBits_eq 0#32 (by decide) (by decide)
  · exact scale_agree _

/-- … and so is its inverse. -/
theorem rowInverse_agree (a : EReal) : ldBits (IntOp.subi (0#32) (rowExpoBits a)) = ldExp (0 - rowExpo a) := by
  unfold rowExpoBits rowExpo
  split
  · rw [sub_zero, ldExp_zero]; exact ldBits_eq (IntOp.subi (0#32) 0#32) (by decide) (by decide)
  · exact inverse_agree _

theorem ofBits_inf : Ideal.ofBits .f32 0x7F800000#32 = ⊤ := by
  rw [show (0x7F800000#32 : BitVec 32) = IntOp.shli .vector (BitVec.ofNat 32 255) 23#32 by decide, ofBits_field 255 (by decide)]
  rfl

theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp only [hp, hq, decide_true, decide_false, and_self, and_true, true_and, and_false, false_and, if_true, if_false] <;> rfl

/-- The reference's exponent, as its operations spell it. -/
theorem refExpo_spelled (v : EReal) :
    Scalar.select (IntOp.andi (BitVec.ofBool (decide (Ideal.ofBits .f32 0x00800000#32 ≤ v))) (BitVec.ofBool (decide (v < Ideal.ofBits .f32 0x7F800000#32))))
      (Ideal.liftRound Int.floor (Ideal.div (Ideal.log v) (Ideal.log (Ideal.ofBits .f32 0x40000000#32))) + 1) 0 = refExpo v := by
  rw [select_and, ofBits_inf]
  rfl

/-! ## One entry and one row of the layer -/

/-- The activation of `z`, given its cube. -/
def act (z cube : EReal) : EReal :=
  z * (Ideal.ofBits .f32 0x3F000000#32 * (1 + Ideal.tanh (Ideal.ofBits .f32 0x3F4C422A#32 * (z + Ideal.ofBits .f32 0x3D372713#32 * cube))))

/-- The cube may be multiplied in either order. -/
theorem act_cube (z : EReal) : act z (z * z * z) = act z (z * (z * z)) := by rw [mul_assoc]

variable (X : (⟨2, ![768, 4608]⟩ : Shape).Idx → EReal) (W : (⟨2, ![4608, 7168]⟩ : Shape).Idx → EReal)
  (S : (⟨2, ![768, 1]⟩ : Shape).Idx → EReal) (T : (⟨2, ![1, 7168]⟩ : Shape).Idx → EReal)

/-- The scaled product at row `r` and column `q`. -/
def prod (r : Fin 768) (q : Fin 7168) : EReal := (∑ k : Fin 4608, X (ix2 r k) * W (ix2 k q)) * S (ix2 r 0) * T (ix2 0 q)

/-- The activation at row `r` and column `q`. -/
def entry (r : Fin 768) (q : Fin 7168) : EReal :=
  act (prod X W S T r q) (prod X W S T r q * (prod X W S T r q * prod X W S T r q))

/-- The largest magnitude of row `r`. -/
def top (r : Fin 768) : EReal :=
  Finset.fold max (Ideal.ofBits .f32 0xFF800000#32) (fun q => FloatOps.absf (F := Ideal) (φ := .f32) (entry X W S T r q)) Finset.univ

/-- The scale of a row whose largest magnitude is `a`. -/
def scaleOf (a : EReal) : EReal := ldExp (rowExpo a)

/-- The code of an entry `y` in such a row. -/
def codeOf (y a : EReal) : EReal :=
  min (Ideal.ofBits .f32 0x43E00000#32) (max (Ideal.ofBits .f32 0xC3E00000#32) (y * ldExp (0 - rowExpo a)))

end Cert.Scalars

end

end
-- ==== Proof.KernelRows.lean ====
/- The kernel's two results over the extended reals, entry by entry: the scale and the codes of the layer stated in `Scalars`. -/
module

public import proofs.«01_k».proof.Proof.KernelValue
public import proofs.«01_k».proof.Proof.Scalars

@[expose] public section

noncomputable section

namespace Cert.KernelIdeal.Hand

open Idealize.ShloMosaic Idealize.SL.Sem Cert.KernelIdeal.Gen Cert.Scalars

/-! ## The stored values at an index -/

/-- A tile's activation at row `r` and column `j` of the tile. -/
theorem pay5_at (x : Vec Ideal S768x4608 .fp8e4m3) (w : Vec Ideal S4608x512 .fp8e4m3) (s : Vec Ideal S768x1 .f32) (t : Vec Ideal S1x512 .f32)
    (r : Fin 768) (j : Fin 512) (z : EReal) (hz : (∑ k : Fin 4608, x (ix2 r k) * w (ix2 k j)) * s (ix2 r 0) * t (ix2 0 j) = z) :
    k0_pay5 x w s t (ix2 r j) = act z (z * z * z) := by
  subst hz
  unfold k0_pay5 act
  pointwise

theorem pay6_eq {F : FTy → Type} [FloatOps F] (x : Vec F S768x4608 .fp8e4m3) (w : Vec F S4608x512 .fp8e4m3) (s : Vec F S768x1 .f32) (t : Vec F S1x512 .f32) :
    k0_pay6 x w s t = k0_pay5 x w s t := by
  unfold k0_pay6
  exact shapeCast_self _ _

theorem pay7_at (x : Vec Ideal S768x4608 .fp8e4m3) (w : Vec Ideal S4608x512 .fp8e4m3) (s : Vec Ideal S768x1 .f32) (t : Vec Ideal S1x512 .f32) (r : Fin 768) :
    k0_pay7 x w s t (ix2 r 0)
      = Finset.fold max (Ideal.ofBits .f32 0xFF800000#32) (fun j => FloatOps.absf (F := Ideal) (φ := .f32) (k0_pay5 x w s t (ix2 r j))) Finset.univ := by
  unfold k0_pay7
  generalize k0_pay5 x w s t = y
  pointwise

theorem pay8_eq {F : FTy → Type} [FloatOps F] (x : Vec F S768x4608 .fp8e4m3) (w : Vec F S4608x512 .fp8e4m3) (s : Vec F S768x1 .f32) (t : Vec F S1x512 .f32) :
    k0_pay8 x w s t = k0_pay7 x w s t := by
  unfold k0_pay8
  exact shapeCast_self _ _

theorem pay1_at (v a : Vec Ideal S768x1 .f32) (r : Fin 768) : k0_pay1 v a (ix2 r 0) = max (a (ix2 r 0)) (v (ix2 r 0)) := by
  unfold k0_pay1
  pointwise

/-- The exponent of a row. -/
theorem pay3_at (a : Vec Ideal S768x1 .f32) (r : Fin 768) : k0_pay3 a (ix2 r 0) = rowExpoBits (a (ix2 r 0)) := by
  unfold k0_pay3 rowExpoBits expoOf Cert.Scalars.count
  pointwise

/-- The scale of a row. -/
theorem pay4_at (a : Vec Ideal S768x1 .f32) (r : Fin 768) : k0_pay4 a (ix2 r 0) = ldBits (k0_pay3 a (ix2 r 0)) := by
  unfold k0_pay4 ldBits
  generalize k0_pay3 a = e
  pointwise

/-- The code of an entry. -/
theorem pay2_at (e : IVec S768x1 32) (y : Vec Ideal S768x7168 .f32) (r : Fin 768) (q : Fin 7168) :
    k0_pay2 e y (ix2 r q) = min (Ideal.ofBits .f32 0x43E00000#32) (max (Ideal.ofBits .f32 0xC3E00000#32)
      (y (ix2 r q) * ldBits (IntOp.subi (0#32) (e (ix2 r 0))))) := by
  unfold k0_pay2 ldBits
  pointwise

/-! ## From the tiles to the rows -/

variable (m : (ℓ : Loc nD τ sig) → Buf (Elt Ideal) ℓ) (c : Dev nD)

/-- The activation codes, without their leading axis. -/
abbrev argX : Vec Ideal S768x4608 .fp8e4m3 := shapeCast S768x4608 (m ((c.tc : Thread nD τ).loc main_arg0)) shapeCasts_S1x768x4608_S768x4608
/-- The row scales, without their leading axis. -/
abbrev argS : Vec Ideal S768x1 .f32 := shapeCast S768x1 (m ((c.tc : Thread nD τ).loc main_arg1)) shapeCasts_S1x768x1_S768x1
/-- The weight codes. -/
abbrev argW : Vec Ideal S4608x7168 .fp8e4m3 := m ((c.tc : Thread nD τ).loc main_arg2)
/-- The column scales. -/
abbrev argT : Vec Ideal S1x7168 .f32 := m ((c.tc : Thread nD τ).loc main_arg3)

/-- The tile of point `t` holds the layer's activations of columns `512 * t` to `512 * t + 511`. -/
theorem tile_at (t : Fin cfg0.N) (r : Fin 768) (j : Fin 512) (q : Fin 7168) (hq : q.val = 512 * t.val + j.val) :
    k0_pay5 (iblk m c 0 t) (iblk m c 2 t) (iblk m c 1 t) (iblk m c 3 t) (ix2 r j) = entry (argX m c) (argW m c) (argS m c) (argT m c) r q := by
  refine (pay5_at _ _ _ _ r j (prod (argX m c) (argW m c) (argS m c) (argT m c) r q) ?_).trans (act_cube _)
  rw [blk0, blk1]
  have h3 : iblk m c 3 t (ix2 0 j) = argT m c (ix2 0 q) := blk3 m c t 0 j q hq
  have h2 : ∀ k : Fin 4608, iblk m c 2 t (ix2 k j) = argW m c (ix2 k q) := fun k => blk2 m c t k j q hq
  unfold prod
  simp only [h2, h3]

/-- The scratch holds the layer's activations. -/
theorem acts_at (r : Fin 768) (q : Fin 7168) : acts m c (ix2 r q) = entry (argX m c) (argW m c) (argS m c) (argT m c) r q := by
  show tile m c (pointOf q) (ix2 r ⟨q.val % 512, Nat.mod_lt _ (by decide)⟩) = _
  unfold tile
  rw [pay6_eq]
  exact tile_at m c (pointOf q) r _ q (by show q.val = 512 * (q.val / 512) + q.val % 512; omega)

/-- A bound of a tile's row maximum is a bound of its entries. -/
theorem tileMax_le (t : Fin cfg0.N) (r : Fin 768) (b : EReal) :
    k0_pay7 (iblk m c 0 t) (iblk m c 2 t) (iblk m c 1 t) (iblk m c 3 t) (ix2 r 0) ≤ b ↔ Ideal.ofBits .f32 0xFF800000#32 ≤ b ∧ ∀ q : Fin 7168, 512 * t.val ≤ q.val → q.val < 512 * (t.val + 1) →
      FloatOps.absf (F := Ideal) (φ := .f32) (entry (argX m c) (argW m c) (argS m c) (argT m c) r q) ≤ b := by
  rw [pay7_at, Finset.fold_max_le]
  refine and_congr_right fun _ => ⟨fun h q h1 h2 => ?_, fun h j _ => ?_⟩
  · have := h ⟨q.val - 512 * t.val, by omega⟩ (Finset.mem_univ _)
    rwa [tile_at m c t r _ q (by show q.val = 512 * t.val + (q.val - 512 * t.val); omega)] at this
  · have ht := t.isLt
    have hN := N_eq
    have hj := j.isLt
    rw [tile_at m c t r j ⟨512 * t.val + j.val, by omega⟩ rfl]
    exact h _ (by show 512 * t.val ≤ 512 * t.val + j.val; omega) (by show 512 * t.val + j.val < _; omega)

/-- A bound of the running maximum after point `n` is a bound of the columns seen by then. -/
theorem rowMax_le (r : Fin 768) (b : EReal) : ∀ (n : ℕ) (h : n < cfg0.N),
    rowMax m c n h (ix2 r 0) ≤ b ↔ Ideal.ofBits .f32 0xFF800000#32 ≤ b ∧ ∀ q : Fin 7168, q.val < 512 * (n + 1) →
      FloatOps.absf (F := Ideal) (φ := .f32) (entry (argX m c) (argW m c) (argS m c) (argT m c) r q) ≤ b
  | 0, h => by
    show k0_pay8 (iblk m c 0 ⟨0, h⟩) (iblk m c 2 ⟨0, h⟩) (iblk m c 1 ⟨0, h⟩) (iblk m c 3 ⟨0, h⟩) (ix2 r 0) ≤ b ↔ _
    rw [pay8_eq, tileMax_le m c ⟨0, h⟩ r b]
    exact and_congr_right fun _ => ⟨fun g q h2 => g q (Nat.zero_le _) h2, fun g q _ h2 => g q h2⟩
  | n + 1, h => by
    show k0_pay1 (tileMax m c ⟨n + 1, h⟩) (rowMax m c n _) (ix2 r 0) ≤ b ↔ _
    rw [pay1_at, max_le_iff, rowMax_le r b n]
    unfold tileMax
    rw [tileMax_le m c ⟨n + 1, h⟩ r b]
    constructor
    · rintro ⟨⟨h1, h2⟩, _, h3⟩
      refine ⟨h1, fun q hq => ?_⟩
      by_cases hc : q.val < 512 * (n + 1)
      · exact h2 q hc
      · exact h3 q (by show 512 * (n + 1) ≤ q.val; omega) hq
    · rintro ⟨h1, h2⟩
      exact ⟨⟨h1, fun q hq => h2 q (by omega)⟩, h1, fun q _ hq => h2 q hq⟩

/-- After the last point the running maximum is the whole row's. -/
theorem rowMax_last (r : Fin 768) (h : 13 < cfg0.N) : rowMax m c 13 h (ix2 r 0) = top (argX m c) (argW m c) (argS m c) (argT m c) r :=
  eq_of_forall_ge_iff fun b => by
    rw [rowMax_le]
    unfold top
    rw [Finset.fold_max_le]
    exact and_congr_right fun _ => ⟨fun g q _ => g q (by have := q.isLt; omega), fun g q _ => g q (Finset.mem_univ q)⟩

/-- The stored scale is the layer's. -/
theorem outScale_at (r : Fin 768) : outScale m c (ix2 r 0) = scaleOf (top (argX m c) (argW m c) (argS m c) (argT m c) r) := by
  unfold outScale scaleOf
  rw [pay4_at, pay3_at, rowScale_agree, rowMax_last]

/-- The stored codes are the layer's. -/
theorem outCodes_at (r : Fin 768) (q : Fin 7168) :
    outCodes m c (ix2 r q) = codeOf (entry (argX m c) (argW m c) (argS m c) (argT m c) r q) (top (argX m c) (argW m c) (argS m c) (argT m c) r) := by
  unfold outCodes codeOf
  rw [pay2_at, pay3_at, rowInverse_agree, rowMax_last, acts_at]

end Cert.KernelIdeal.Hand

end

end
-- ==== Proof.ReferenceValue.lean ====
/- The two results of the reference, and its input blocks read off the arguments. -/
module

public import proofs.«01_k».proof.Proof.Gen.ReferenceIdeal.Frame
public import Idealize.ShloMosaic.Lib.Pipeline.Value
public import Idealize.ShloMosaic.Lib.Claim
public import Idealize.ShloMosaic.Lib.ValueIdxCore

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix2)

variable (m : (ℓ : Loc nD τ sig) → Buf (Elt F) ℓ) (ρ : Dev nD → PrngReg)

/-- The one point. -/
def pt0 : Fin cfg0.N := ⟨0, by rw [show cfg0.N = 1 from N_0]; decide⟩

/-- The activations of the reference, all columns at once. -/
def acts (c : Dev nD) : Vec F S768x7168 .f32 := k0_pay4 (iblk m c 0 pt0) (iblk m c 2 pt0) (iblk m c 1 pt0) (iblk m c 3 pt0)
/-- Their row maxima. -/
def rowMax (c : Dev nD) : Vec F S768x1 .f32 := k0_pay5 (iblk m c 0 pt0) (iblk m c 2 pt0) (iblk m c 1 pt0) (iblk m c 3 pt0)
/-- Whether a row's maximum over 448 is a normal number. -/
def isNormal (c : Dev nD) : IVec S768x1 1 := k0_pay7 (iblk m c 0 pt0) (iblk m c 2 pt0) (iblk m c 1 pt0) (iblk m c 3 pt0)
/-- The exponent of a row's maximum over 448, were it normal. -/
def expo (c : Dev nD) : Vec F S768x1 .f32 := k0_pay8 (iblk m c 0 pt0) (iblk m c 2 pt0) (iblk m c 1 pt0) (iblk m c 3 pt0)
/-- The scale the reference stores. -/
def outScale (c : Dev nD) : Vec F S768x1 .f32 := k0_pay2 (rowMax m c) (isNormal m c) (expo m c)
/-- The codes the reference stores. -/
def outCodes (c : Dev nD) : Vec F S768x7168 .fp8e4m3 := k0_pay3 (acts m c) (rowMax m c) (isNormal m c) (expo m c)

theorem zero_off : (![0, 0] : Fin 2 → ℕ) = fun _ => 0 := by funext a; fin_cases a <;> rfl

/-- There is one point. -/
theorem point_eq (t : Fin cfg0.N) : t = pt0 := by
  have := t.isLt
  have hN : cfg0.N = 1 := N_0
  exact Fin.ext (show t.val = 0 by omega)

theorem after_eq4 (c : Dev nD) (t : Fin cfg0.N) : (dats m 0 c).after 4 t = outScale m c := by
  obtain rfl := point_eq t
  rw [after0_4]
  unfold out0_4
  refine (View.canon_unit_zero zero_off _ _).trans ?_
  unfold k0_pay9 k0_pay10 k0_pay11 outScale rowMax isNormal expo
  rw [View.ld_unit_zero zero_off, View.ld_unit_zero zero_off, View.ld_unit_zero zero_off, View.ld_unit_zero zero_off]

theorem after_eq5 (c : Dev nD) (t : Fin cfg0.N) : (dats m 0 c).after 5 t = outCodes m c := by
  obtain rfl := point_eq t
  rw [after0_5]
  unfold out0_5
  refine (View.canon_unit_zero zero_off _ _).trans ?_
  unfold k0_pay9 k0_pay10 k0_pay11 outCodes acts rowMax isNormal expo
  rw [View.ld_unit_zero zero_off, View.ld_unit_zero zero_off, View.ld_unit_zero zero_off, View.ld_unit_zero zero_off]

/-- The one block of output window 4 is its whole array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Some point writes it back. -/
theorem flushes4 : ∃ t : Fin cfg0.N, (cfg0.win 4).flush t = true :=
  (by decide +kernel : ∃ t : Fin grid0.N, (cfg0.win 4).flush t = true)

/-- After the region the array of window 4 is the scale. -/
theorem arr4 (c : Dev nD) : (dats m 0 c).arrAt 4 cfg0.N = outScale m c :=
  (dats m 0 c).arrAt_eq_of_cover 4 _ (fun t hf => by
    show (cfg0.win 4).cut (grid0.coords t) ((dats m 0 c).after 4 t) = _
    rw [after_eq4]
    obtain ⟨e0, e1⟩ := idx4 t
    funext y
    show outScale m c ((cfg0.win 4).xinj (grid0.coords t) y) = outScale m c (((cfg0.win 4).blk t).view.emb y)
    refine congrArg (outScale m c) (funext fun a => Fin.ext ?_)
    match a with
    | ⟨0, _⟩ => show (y 0).val = win0_4.index t (0 : Fin 2) * 768 + 1 * (y 0).val; omega
    | ⟨1, _⟩ => show (y 1).val = win0_4.index t (1 : Fin 2) * 1 + 1 * (y 1).val; omega)
  (fun i => by
    obtain ⟨t, hf⟩ := flushes4
    obtain ⟨e0, e1⟩ := idx4 t
    refine ⟨t, hf, ?_⟩
    show i ∈ ((View.whole (Pipeline.arrRef spec0 4)).slice (win0_4.rect t)).set
    rw [View.set_slice_whole, Rect.mem_set_unit]
    have hi0 : (i 0).val < 768 := (i 0).isLt
    have hi1 : (i 1).val < 1 := (i 1).isLt
    intro a
    match a with
    | ⟨0, _⟩ => show win0_4.index t (0 : Fin 2) * 768 ≤ (i 0).val ∧ (i 0).val < win0_4.index t (0 : Fin 2) * 768 + 768; omega
    | ⟨1, _⟩ => show win0_4.index t (1 : Fin 2) * 1 ≤ (i 1).val ∧ (i 1).val < win0_4.index t (1 : Fin 2) * 1 + 1; omega)

/-- The one block of output window 5 is its whole array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Some point writes it back. -/
theorem flushes5 : ∃ t : Fin cfg0.N, (cfg0.win 5).flush t = true :=
  (by decide +kernel : ∃ t : Fin grid0.N, (cfg0.win 5).flush t = true)

/-- After the region the array of window 5 is the codes. -/
theorem arr5 (c : Dev nD) : (dats m 0 c).arrAt 5 cfg0.N = outCodes m c :=
  (dats m 0 c).arrAt_eq_of_cover 5 _ (fun t hf => by
    show (cfg0.win 5).cut (grid0.coords t) ((dats m 0 c).after 5 t) = _
    rw [after_eq5]
    obtain ⟨e0, e1⟩ := idx5 t
    funext y
    show outCodes m c ((cfg0.win 5).xinj (grid0.coords t) y) = outCodes m c (((cfg0.win 5).blk t).view.emb y)
    refine congrArg (outCodes m c) (funext fun a => Fin.ext ?_)
    match a with
    | ⟨0, _⟩ => show (y 0).val = win0_5.index t (0 : Fin 2) * 768 + 1 * (y 0).val; omega
    | ⟨1, _⟩ => show (y 1).val = win0_5.index t (1 : Fin 2) * 7168 + 1 * (y 1).val; omega)
  (fun i => by
    obtain ⟨t, hf⟩ := flushes5
    obtain ⟨e0, e1⟩ := idx5 t
    refine ⟨t, hf, ?_⟩
    show i ∈ ((View.whole (Pipeline.arrRef spec0 5)).slice (win0_5.rect t)).set
    rw [View.set_slice_whole, Rect.mem_set_unit]
    have hi0 : (i 0).val < 768 := (i 0).isLt
    have hi1 : (i 1).val < 7168 := (i 1).isLt
    intro a
    match a with
    | ⟨0, _⟩ => show win0_5.index t (0 : Fin 2) * 768 ≤ (i 0).val ∧ (i 0).val < win0_5.index t (0 : Fin 2) * 768 + 768; omega
    | ⟨1, _⟩ => show win0_5.index t (1 : Fin 2) * 7168 ≤ (i 1).val ∧ (i 1).val < win0_5.index t (1 : Fin 2) * 7168 + 7168; omega)

/-- The last host lines reshape it into the result `main_v3`. -/
theorem res3 (c : Dev nD) :
    Pipeline.afterTail₀ cfgs (dats m) 0 (V0 m) [hostOps1] c main_v3 = shapeCast S1x768x1 (outScale m c) shapeCasts_S768x1_S1x768x1 := by
  have h : Pipeline.withArrays spec0 c (V0 m c) (fun w => (dats m 0 c).arrAt w cfg0.N) (Proc.devRef .tc main_v2_0) = outScale m c :=
    (Pipeline.withArrays_arr spec0 launch0.win.arr_inj c (V0 m c) (fun w => (dats m 0 c).arrAt w cfg0.N) 4).trans (arr4 m c)
  unfold Pipeline.afterTail₀
  entry_read
  rw [← h]
  rfl

/-- The last host lines reshape it into the result `main_v4`. -/
theorem res4 (c : Dev nD) :
    Pipeline.afterTail₀ cfgs (dats m) 0 (V0 m) [hostOps1] c main_v4 = shapeCast S1x768x7168 (outCodes m c) shapeCasts_S768x7168_S1x768x7168 := by
  have h : Pipeline.withArrays spec0 c (V0 m c) (fun w => (dats m 0 c).arrAt w cfg0.N) (Proc.devRef .tc main_v2_1) = outCodes m c :=
    (Pipeline.withArrays_arr spec0 launch0.win.arr_inj c (V0 m c) (fun w => (dats m 0 c).arrAt w cfg0.N) 5).trans (arr5 m c)
  unfold Pipeline.afterTail₀
  entry_read
  rw [← h]
  rfl

/-- The run: every execution ends with the two results at the reshaped scale and codes, and the arguments as launched. -/
theorem run_value : θ_run defs (onTc (τ := τ) (main (F := F))) ⟨m, fun _ => 0, ρ⟩ (fun r => ∀ c : Dev nD,
      r.2.mem ((c.tc : Thread nD τ).loc main_v3) = shapeCast S1x768x1 (outScale m c) shapeCasts_S768x1_S1x768x1
      ∧ r.2.mem ((c.tc : Thread nD τ).loc main_v4) = shapeCast S1x768x7168 (outCodes m c) shapeCasts_S768x7168_S1x768x7168
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (res3 m c),
      ((h c).2 main_v4 (Pipeline.mem_restRefs_of main_v4 (by decide) (by decide))).trans (res4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

/-! ## The input blocks, read off the arguments -/

theorem bidx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The block of the activation codes: the whole argument without its leading axis. -/
theorem blk0 (c : Dev nD) (t : Fin cfg0.N) :
    iblk m c 0 t = shapeCast S768x4608 (m ((c : Thread nD τ).loc main_arg0)) shapeCasts_S1x768x4608_S768x4608 := by
  obtain ⟨e0, e1⟩ := bidx0 t
  have h : V m c (Pipeline.arrRef spec0 0) = shapeCast S768x4608 (m ((c : Thread nD τ).loc main_arg0)) shapeCasts_S1x768x4608_S768x4608 := by
    show V m c main_v0 = _
    entry_read
    rfl
  unfold iblk
  rw [h]
  funext y
  refine congrArg (shapeCast S768x4608 (m ((c : Thread nD τ).loc main_arg0)) shapeCasts_S1x768x4608_S768x4608) (funext fun a => Fin.ext ?_)
  match a with
  | ⟨0, _⟩ => show win0_0.index t (0 : Fin 2) * 768 + 1 * (y 0).val = (y 0).val; omega
  | ⟨1, _⟩ => show win0_0.index t (1 : Fin 2) * 4608 + 1 * (y 1).val = (y 1).val; omega

theorem bidx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The block of the row scales: the whole argument without its leading axis. -/
theorem blk1 (c : Dev nD) (t : Fin cfg0.N) :
    iblk m c 1 t = shapeCast S768x1 (m ((c : Thread nD τ).loc main_arg1)) shapeCasts_S1x768x1_S768x1 := by
  obtain ⟨e0, e1⟩ := bidx1 t
  have h : V m c (Pipeline.arrRef spec0 1) = shapeCast S768x1 (m ((c : Thread nD τ).loc main_arg1)) shapeCasts_S1x768x1_S768x1 := by
    show V m c main_v1 = _
    entry_read
    rfl
  unfold iblk
  rw [h]
  funext y
  refine congrArg (shapeCast S768x1 (m ((c : Thread nD τ).loc main_arg1)) shapeCasts_S1x768x1_S768x1) (funext fun a => Fin.ext ?_)
  match a with
  | ⟨0, _⟩ => show win0_1.index t (0 : Fin 2) * 768 + 1 * (y 0).val = (y 0).val; omega
  | ⟨1, _⟩ => show win0_1.index t (1 : Fin 2) * 1 + 1 * (y 1).val = (y 1).val; omega

theorem bidx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The block of the weight codes: the whole argument. -/
theorem blk2 (c : Dev nD) (t : Fin cfg0.N) : iblk m c 2 t = m ((c : Thread nD τ).loc main_arg2) := by
  obtain ⟨e0, e1⟩ := bidx2 t
  unfold iblk
  rw [show V m c (Pipeline.arrRef spec0 2) = m ((c : Thread nD τ).loc main_arg2) from V_main_arg2 m c]
  funext y
  refine congrArg (m ((c : Thread nD τ).loc main_arg2)) (funext fun a => Fin.ext ?_)
  match a with
  | ⟨0, _⟩ => show win0_2.index t (0 : Fin 2) * 4608 + 1 * (y 0).val = (y 0).val; omega
  | ⟨1, _⟩ => show win0_2.index t (1 : Fin 2) * 7168 + 1 * (y 1).val = (y 1).val; omega

theorem bidx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The block of the column scales: the whole argument. -/
theorem blk3 (c : Dev nD) (t : Fin cfg0.N) : iblk m c 3 t = m ((c : Thread nD τ).loc main_arg3) := by
  obtain ⟨e0, e1⟩ := bidx3 t
  unfold iblk
  rw [show V m c (Pipeline.arrRef spec0 3) = m ((c : Thread nD τ).loc main_arg3) from V_main_arg3 m c]
  funext y
  refine congrArg (m ((c : Thread nD τ).loc main_arg3)) (funext fun a => Fin.ext ?_)
  match a with
  | ⟨0, _⟩ => show win0_3.index t (0 : Fin 2) * 1 + 1 * (y 0).val = (y 0).val; omega
  | ⟨1, _⟩ => show win0_3.index t (1 : Fin 2) * 7168 + 1 * (y 1).val = (y 1).val; omega

end Cert.ReferenceIdeal.Hand

end
-- ==== Proof.ReferenceRows.lean ====
/- The reference's two results over the extended reals, entry by entry: the scale and the codes of the layer stated in `Scalars`. -/
module

public import proofs.«01_k».proof.Proof.ReferenceValue
public import proofs.«01_k».proof.Proof.Scalars

@[expose] public section

noncomputable section

namespace Cert.ReferenceIdeal.Hand

open Idealize.ShloMosaic Idealize.SL.Sem Cert.ReferenceIdeal.Gen Cert.Scalars

/-! ## The stored values at an index -/

theorem pay4_at (x : Vec Ideal S768x4608 .fp8e4m3) (w : Vec Ideal S4608x7168 .fp8e4m3) (s : Vec Ideal S768x1 .f32) (t : Vec Ideal S1x7168 .f32)
    (r : Fin 768) (q : Fin 7168) : k0_pay4 x w s t (ix2 r q) = entry x w s t r q := by
  unfold k0_pay4 entry act prod
  pointwise

theorem pay5_at (x : Vec Ideal S768x4608 .fp8e4m3) (w : Vec Ideal S4608x7168 .fp8e4m3) (s : Vec Ideal S768x1 .f32) (t : Vec Ideal S1x7168 .f32) (r : Fin 768) :
    k0_pay5 x w s t (ix2 r 0)
      = Finset.fold max (Ideal.ofBits .f32 0xFF800000#32) (fun j => FloatOps.absf (F := Ideal) (φ := .f32) (k0_pay4 x w s t (ix2 r j))) Finset.univ := by
  unfold k0_pay5
  generalize k0_pay4 x w s t = y
  pointwise

/-- The row maximum over 448. -/
def scaled {F : FTy → Type} [FloatOps F] (a : FVec F S768x1 .f32) : FVec F S768x1 .f32 := mulf a (broadcast S768x1 (Scalar.ofBits .f32 0x3B124925#32))

/-- Whether it is a normal number. -/
def normalOf {F : FTy → Type} [FloatOps F] (v : FVec F S768x1 .f32) : IVec S768x1 1 :=
  andi (cmpf .oge v (broadcast S768x1 (Scalar.ofBits .f32 0x00800000#32))) (cmpf .olt v (broadcast S768x1 (Scalar.ofBits .f32 0x7F800000#32)))

/-- The exponent of a normal number. -/
def logOf {F : FTy → Type} [FloatOps F] (v : FVec F S768x1 .f32) : FVec F S768x1 .f32 :=
  addf (floor (divf (log v) (log (broadcast S768x1 (Scalar.ofBits .f32 0x40000000#32))))) (broadcast S768x1 (Scalar.ofBits .f32 0x3F800000#32))

theorem pay7_eq {F : FTy → Type} [FloatOps F] (x : Vec F S768x4608 .fp8e4m3) (w : Vec F S4608x7168 .fp8e4m3) (s : Vec F S768x1 .f32) (t : Vec F S1x7168 .f32) :
    k0_pay7 x w s t = normalOf (scaled (k0_pay5 x w s t)) := rfl

theorem pay8_eq {F : FTy → Type} [FloatOps F] (x : Vec F S768x4608 .fp8e4m3) (w : Vec F S4608x7168 .fp8e4m3) (s : Vec F S768x1 .f32) (t : Vec F S1x7168 .f32) :
    k0_pay8 x w s t = logOf (scaled (k0_pay5 x w s t)) := rfl

/-- The exponent of a row whose maximum is `a`. -/
theorem pay1_at (a : FVec Ideal S768x1 .f32) (r : Fin 768) : k0_pay1 a (normalOf (scaled a)) (logOf (scaled a)) (ix2 r 0) = rowExpo (a (ix2 r 0)) := by
  unfold rowExpo
  rw [← refExpo_spelled]
  unfold k0_pay1 normalOf logOf scaled
  pointwise

/-- The scale of a row. -/
theorem pay2_at (a : FVec Ideal S768x1 .f32) (n : IVec S768x1 1) (e : FVec Ideal S768x1 .f32) (r : Fin 768) :
    k0_pay2 a n e (ix2 r 0) = ldExp (k0_pay1 a n e (ix2 r 0)) := by
  unfold k0_pay2 ldExp
  generalize k0_pay1 a n e = v
  rw [← ofBits_inf]
  pointwise
  rfl

/-- The code of an entry. -/
theorem pay3_at (y : FVec Ideal S768x7168 .f32) (a : FVec Ideal S768x1 .f32) (n : IVec S768x1 1) (e : FVec Ideal S768x1 .f32) (r : Fin 768) (q : Fin 7168) :
    k0_pay3 y a n e (ix2 r q) = min (Ideal.ofBits .f32 0x43E00000#32) (max (Ideal.ofBits .f32 0xC3E00000#32)
      (y (ix2 r q) * ldExp (0 - k0_pay1 a n e (ix2 r 0)))) := by
  unfold k0_pay3 ldExp
  generalize k0_pay1 a n e = v
  rw [← ofBits_inf]
  pointwise
  rfl

/-! ## The results -/

variable (m : (ℓ : Loc nD τ sig) → Buf (Elt Ideal) ℓ) (c : Dev nD)

/-- The activation codes, without their leading axis. -/
abbrev argX : Vec Ideal S768x4608 .fp8e4m3 := shapeCast S768x4608 (m ((c.tc : Thread nD τ).loc main_arg0)) shapeCasts_S1x768x4608_S768x4608
/-- The row scales, without their leading axis. -/
abbrev argS : Vec Ideal S768x1 .f32 := shapeCast S768x1 (m ((c.tc : Thread nD τ).loc main_arg1)) shapeCasts_S1x768x1_S768x1
/-- The weight codes. -/
abbrev argW : Vec Ideal S4608x7168 .fp8e4m3 := m ((c.tc : Thread nD τ).loc main_arg2)
/-- The column scales. -/
abbrev argT : Vec Ideal S1x7168 .f32 := m ((c.tc : Thread nD τ).loc main_arg3)

theorem rowMax_at (r : Fin 768) : rowMax m c (ix2 r 0) = top (argX m c) (argW m c) (argS m c) (argT m c) r := by
  unfold rowMax top
  rw [blk0, blk1, blk2, blk3, pay5_at]
  simp only [pay4_at]

/-- The exponent of row `r`. -/
theorem expo_at (r : Fin 768) : k0_pay1 (rowMax m c) (isNormal m c) (expo m c) (ix2 r 0) = rowExpo (top (argX m c) (argW m c) (argS m c) (argT m c) r) := by
  rw [← rowMax_at, ← pay1_at]
  unfold isNormal expo rowMax
  rw [pay7_eq, pay8_eq]

/-- The stored scale is the layer's. -/
theorem outScale_at (r : Fin 768) : outScale m c (ix2 r 0) = scaleOf (top (argX m c) (argW m c) (argS m c) (argT m c) r) := by
  unfold outScale scaleOf
  rw [pay2_at, expo_at]

/-- The stored codes are the layer's. -/
theorem outCodes_at (r : Fin 768) (q : Fin 7168) :
    outCodes m c (ix2 r q) = codeOf (entry (argX m c) (argW m c) (argS m c) (argT m c) r q) (top (argX m c) (argW m c) (argS m c) (argT m c) r) := by
  unfold outCodes codeOf
  rw [pay3_at, expo_at]
  unfold acts
  rw [blk0, blk1, blk2, blk3, pay4_at]

end Cert.ReferenceIdeal.Hand

end

end
-- ==== Proof.Agree.lean ====
/- The kernel and the reference agree: from equal arguments, over the extended reals, both runs end with the same scale and the same codes. -/
module

public import proofs.«01_k».proof.Proof.KernelRows
public import proofs.«01_k».proof.Proof.ReferenceRows

@[expose] public section

noncomputable section

namespace Cert.Agree

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are given equal arguments on device `c`. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m' c}

/-- Equal arguments, read as the layer's operands. -/
theorem operands_eq (h : SameArgs m m' c) :
    Cert.ReferenceIdeal.Hand.argX m' c = Cert.KernelIdeal.Hand.argX m c ∧ Cert.ReferenceIdeal.Hand.argW m' c = Cert.KernelIdeal.Hand.argW m c
    ∧ Cert.ReferenceIdeal.Hand.argS m' c = Cert.KernelIdeal.Hand.argS m c ∧ Cert.ReferenceIdeal.Hand.argT m' c = Cert.KernelIdeal.Hand.argT m c :=
  ⟨congrArg (fun x => shapeCast Cert.KernelIdeal.S768x4608 x Cert.KernelIdeal.Gen.shapeCasts_S1x768x4608_S768x4608) h.1, h.2.2.1,
    congrArg (fun x => shapeCast Cert.KernelIdeal.S768x1 x Cert.KernelIdeal.Gen.shapeCasts_S1x768x1_S768x1) h.2.1, h.2.2.2⟩

/-- The scales agree. -/
theorem scale_eq (h : SameArgs m m' c) : Cert.ReferenceIdeal.Hand.outScale m' c = Cert.KernelIdeal.Hand.outScale m c := by
  obtain ⟨hX, hW, hS, hT⟩ := operands_eq h
  funext i
  obtain ⟨r, rfl⟩ : ∃ r : Fin 768, i = ix2 r 0 := ⟨i 0, (ValueIdx.eq_ix2 i).trans (congrArg (ix2 (i 0)) (show (i 1 : Fin 1) = (0 : Fin 1) from @Subsingleton.elim (Fin 1) _ _ _))⟩
  refine (Cert.ReferenceIdeal.Hand.outScale_at m' c r).trans (Eq.trans ?_ (Cert.KernelIdeal.Hand.outScale_at m c r).symm)
  rw [hX, hW, hS, hT]

/-- The codes agree. -/
theorem codes_eq (h : SameArgs m m' c) : Cert.ReferenceIdeal.Hand.outCodes m' c = Cert.KernelIdeal.Hand.outCodes m c := by
  obtain ⟨hX, hW, hS, hT⟩ := operands_eq h
  funext i
  obtain ⟨r, q, rfl⟩ : ∃ (r : Fin 768) (q : Fin 7168), i = ix2 r q := ⟨i 0, i 1, ValueIdx.eq_ix2 i⟩
  refine (Cert.ReferenceIdeal.Hand.outCodes_at m' c r q).trans (Eq.trans ?_ (Cert.KernelIdeal.Hand.outCodes_at m c r q).symm)
  rw [hX, hW, hS, hT]

end Cert.Agree

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.PrintedFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Both programs end with the kernel's scale and codes, reshaped into the results, and with the arguments unchanged. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, Cert.KernelIdeal.Hand.run_value m g, (θ_run _ _ _).mono (fun r h c => ?_) (Cert.ReferenceIdeal.Hand.run_value m' g')⟩
  obtain ⟨h3, h4, hrest⟩ := h c
  exact ⟨h3.trans (congrArg (fun x => shapeCast Cert.KernelIdeal.S1x768x1 x Cert.KernelIdeal.Gen.shapeCasts_S768x1_S1x768x1) (Cert.Agree.scale_eq (hargs c))),
    h4.trans (congrArg (fun x => shapeCast Cert.KernelIdeal.S1x768x7168 x Cert.KernelIdeal.Gen.shapeCasts_S768x7168_S1x768x7168) (Cert.Agree.codes_eq (hargs c))), hrest⟩

/-- Everything the certificate claims. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
